-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_npix" .f32 0x38AAAAAB#32 ((1 / 12288 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v398) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x640x48x64 : Shape := ⟨4, ![2, 640, 48, 64]⟩
abbrev S640x640x4x4 : Shape := ⟨4, ![640, 640, 4, 4]⟩
abbrev S640x640x1x1 : Shape := ⟨4, ![640, 640, 1, 1]⟩
abbrev S640 : Shape := ⟨1, ![640]⟩
abbrev S133x640x1x1 : Shape := ⟨4, ![133, 640, 1, 1]⟩
abbrev S133 : Shape := ⟨1, ![133]⟩
abbrev S_ : Shape := ⟨0, ![]⟩

class Facts : Prop where
  bcast_S_S2x640x48x64 : S_.BroadcastsInDim S2x640x48x64 (![] : Fin 0 → Fin S2x640x48x64.rank)
  reducesTo_S2x640x48x64_S_d0_1_2_3 : S2x640x48x64.ReducesTo [0, 1, 2, 3] S_
  h_S_ : 0 < S_.numel
  bcast_S_S640x640x4x4 : S_.BroadcastsInDim S640x640x4x4 (![] : Fin 0 → Fin S640x640x4x4.rank)
  reducesTo_S640x640x4x4_S_d0_1_2_3 : S640x640x4x4.ReducesTo [0, 1, 2, 3] S_
  bcast_S_S640x640x1x1 : S_.BroadcastsInDim S640x640x1x1 (![] : Fin 0 → Fin S640x640x1x1.rank)
  reducesTo_S640x640x1x1_S_d0_1_2_3 : S640x640x1x1.ReducesTo [0, 1, 2, 3] S_
  bcast_S_S640 : S_.BroadcastsInDim S640 (![] : Fin 0 → Fin S640.rank)
  reducesTo_S640_S_d0 : S640.ReducesTo [0] S_

variable [Facts]

def fn_part1 {F : FTy → Type} [FloatOps F] (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  main_v18

def fn {F : FTy → Type} [FloatOps F] (main_arg0 : FVec F S2x640x48x64 .f32) (main_arg1 : FVec F S640x640x4x4 .f32) (main_arg2 : FVec F S640x640x1x1 .f32) (main_arg3 : FVec F S640 .f32) (main_arg4 : FVec F S133x640x1x1 .f32) (main_arg5 : FVec F S133 .f32) : IVec S_ 1 :=
  let main_v0 : FVec F S2x640x48x64 .f32 := Host.absf main_arg0
  let main_cst : FVec F S_ .f32 := constant S_ .f32 0x7F800000#32
  let main_v1 : FVec F S2x640x48x64 .f32 := broadcastInDim S2x640x48x64 ![] bcast_S_S2x640x48x64 main_cst
  let main_v2 : IVec S2x640x48x64 1 := cmpf .olt main_v0 main_v1
  let main_c : IVec S_ 1 := constantI S_ 1 1#1
  let main_v3 : IVec S_ 1 := (fun x v => Host.reduce IntOp.andi x v reducesTo_S2x640x48x64_S_d0_1_2_3 h_S_) main_v2 main_c
  let main_v4 : FVec F S640x640x4x4 .f32 := Host.absf main_arg1
  let main_cst_0 : FVec F S_ .f32 := constant S_ .f32 0x7F800000#32
  let main_v5 : FVec F S640x640x4x4 .f32 := broadcastInDim S640x640x4x4 ![] bcast_S_S640x640x4x4 main_cst_0
  let main_v6 : IVec S640x640x4x4 1 := cmpf .olt main_v4 main_v5
  let main_c_1 : IVec S_ 1 := constantI S_ 1 1#1
  let main_v7 : IVec S_ 1 := (fun x v => Host.reduce IntOp.andi x v reducesTo_S640x640x4x4_S_d0_1_2_3 h_S_) main_v6 main_c_1
  let main_v8 : IVec S_ 1 := andi main_v3 main_v7
  let main_v9 : FVec F S640x640x1x1 .f32 := Host.absf main_arg2
  let main_cst_2 : FVec F S_ .f32 := constant S_ .f32 0x7F800000#32
  let main_v10 : FVec F S640x640x1x1 .f32 := broadcastInDim S640x640x1x1 ![] bcast_S_S640x640x1x1 main_cst_2
  let main_v11 : IVec S640x640x1x1 1 := cmpf .olt main_v9 main_v10
  let main_c_3 : IVec S_ 1 := constantI S_ 1 1#1
  let main_v12 : IVec S_ 1 := (fun x v => Host.reduce IntOp.andi x v reducesTo_S640x640x1x1_S_d0_1_2_3 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_v13 main_v16
-- ==== Kernel.lean ====
abbrev S2x640x48x64 : Shape := ⟨4, ![2, 640, 48, 64]⟩
abbrev S640x640x4x4 : Shape := ⟨4, ![640, 640, 4, 4]⟩
abbrev S640x640x1x1 : Shape := ⟨4, ![640, 640, 1, 1]⟩
abbrev S640 : Shape := ⟨1, ![640]⟩
abbrev S133x640x1x1 : Shape := ⟨4, ![133, 640, 1, 1]⟩
abbrev S133 : Shape := ⟨1, ![133]⟩
abbrev S96x96 : Shape := ⟨2, ![96, 96]⟩
abbrev S128x128 : Shape := ⟨2, ![128, 128]⟩
abbrev S2x48x64x640 : Shape := ⟨4, ![2, 48, 64, 640]⟩
abbrev S_ : Shape := ⟨0, ![]⟩
abbrev S2x50x66x640 : Shape := ⟨4, ![2, 50, 66, 640]⟩
abbrev S640x640 : Shape := ⟨2, ![640, 640]⟩
abbrev S2560x640 : Shape := ⟨2, ![2560, 640]⟩
abbrev S1x2560x640 : Shape := ⟨3, ![1, 2560, 640]⟩
abbrev S4x2560x640 : Shape := ⟨3, ![4, 2560, 640]⟩
abbrev S2x4x48x64x640 : Shape := ⟨5, ![2, 4, 48, 64, 640]⟩
abbrev S2x12x2x640 : Shape := ⟨4, ![2, 12, 2, 640]⟩
abbrev S1x50x66x640 : Shape := ⟨4, ![1, 50, 66, 640]⟩
abbrev S1x4x4x64x640 : Shape := ⟨5, ![1, 4, 4, 64, 640]⟩
abbrev S1x1x2x640 : Shape := ⟨4, ![1, 1, 2, 640]⟩
abbrev S1x4x64x640 : Shape := ⟨4, ![1, 4, 64, 640]⟩
abbrev S4x64x640 : Shape := ⟨3, ![4, 64, 640]⟩
abbrev S256x640 : Shape := ⟨2, ![256, 640]⟩
abbrev S256x2560 : Shape := ⟨2, ![256, 2560]⟩
abbrev S1x1x4x64x640 : Shape := ⟨5, ![1, 1, 4, 64, 640]⟩
abbrev S1x640 : Shape := ⟨2, ![1, 640]⟩
abbrev S2x640 : Shape := ⟨2, ![2, 640]⟩
abbrev S2x12288x640 : Shape := ⟨3, ![2, 12288, 640]⟩
abbrev S2x6x2x640 : Shape := ⟨4, ![2, 6, 2, 640]⟩
abbrev S1x2048x640 : Shape := ⟨3, ![1, 2048, 640]⟩
abbrev S1x12x2x640 : Shape := ⟨4, ![1, 12, 2, 640]⟩
abbrev S12x2x640 : Shape := ⟨3, ![12, 2, 640]⟩
abbrev S2048x640 : Shape := ⟨2, ![2048, 640]⟩
abbrev S133x640 : Shape := ⟨2, ![133, 640]⟩
abbrev S640x133 : Shape := ⟨2, ![640, 133]⟩
abbrev S1x133 : Shape := ⟨2, ![1, 133]⟩
abbrev S2x12288x133 : Shape := ⟨3, ![2, 12288, 133]⟩
abbrev S2x6x2x133 : Shape := ⟨4, ![2, 6, 2, 133]⟩
abbrev S1x2048x133 : Shape := ⟨3, ![1, 2048, 133]⟩
abbrev S1x1x2x133 : Shape := ⟨4, ![1, 1, 2, 133]⟩
abbrev S1x6x2x640 : Shape := ⟨4, ![1, 6, 2, 640]⟩
abbrev S6x2x640 : Shape := ⟨3, ![6, 2, 640]⟩
abbrev S2048x133 : Shape := ⟨2, ![2048, 133]⟩
abbrev S2x2x2x48x64x133 : Shape := ⟨6, ![2, 2, 2, 48, 64, 133]⟩
abbrev S2x133x48x2x64x2 : Shape := ⟨6, ![2, 133, 48, 2, 64, 2]⟩
abbrev S266x96x128 : Shape := ⟨3, ![266, 96, 128]⟩
abbrev S14x19x2 : Shape := ⟨3, ![14, 19, 2]⟩
abbrev S14x19x1 : Shape := ⟨3, ![14, 19, 1]⟩
abbrev S19x96x128 : Shape := ⟨3, ![19, 96, 128]⟩
abbrev S1x19x2 : Shape := ⟨3, ![1, 19, 2]⟩
abbrev S1x19x1 : Shape := ⟨3, ![1, 19, 1]⟩
abbrev S19 : Shape := ⟨1, ![19]⟩
abbrev S19x1x1 : Shape := ⟨3, ![19, 1, 1]⟩
abbrev S19x96x1 : Shape := ⟨3, ![19, 96, 1]⟩
abbrev S19x1x128 : Shape := ⟨3, ![19, 1, 128]⟩
abbrev S1x96x128 : Shape := ⟨3, ![1, 96, 128]⟩
abbrev S96x128 : Shape := ⟨2, ![96, 128]⟩
abbrev S19x1 : Shape := ⟨2, ![19, 1]⟩
abbrev S19x2 : Shape := ⟨2, ![19, 2]⟩
abbrev S2x133x2 : Shape := ⟨3, ![2, 133, 2]⟩
abbrev S2x133 : Shape := ⟨2, ![2, 133]⟩

abbrev nBuf : Space → Nat
  | .hbm => 73
  | .vmem => 33
  | .smem => 0
  | _ => 0

abbrev bufTy : (tb : Table) → Fin (tcTables nBuf tb) → BufTy
  | .hbm, ⟨0, _⟩ => ⟨S2x640x48x64, .f32⟩
  | .hbm, ⟨1, _⟩ => ⟨S640x640x4x4, .f32⟩
  | .hbm, ⟨2, _⟩ => ⟨S640x640x1x1, .f32⟩
  | .hbm, ⟨3, _⟩ => ⟨S640, .f32⟩
  | .hbm, ⟨4, _⟩ => ⟨S133x640x1x1, .f32⟩
  | .hbm, ⟨5, _⟩ => ⟨S133, .f32⟩
  | .hbm, ⟨6, _⟩ => ⟨S96x96, .f32⟩
  | .hbm, ⟨7, _⟩ => ⟨S128x128, .f32⟩
  | .hbm, ⟨8, _⟩ => ⟨S2x48x64x640, .f32⟩
  | .hbm, ⟨9, _⟩ => ⟨S_, .i32⟩
  | .hbm, ⟨10, _⟩ => ⟨S_, .f32⟩
  | .hbm, ⟨11, _⟩ => ⟨S2x50x66x640, .f32⟩
  | .hbm, ⟨12, _⟩ => ⟨S640x640x1x1, .f32⟩
  | .hbm, ⟨13, _⟩ => ⟨S640x640, .f32⟩
  | .hbm, ⟨14, _⟩ => ⟨S640x640x1x1, .f32⟩
  | .hbm, ⟨15, _⟩ => ⟨S640x640, .f32⟩
  | .hbm, ⟨16, _⟩ => ⟨S640x640x1x1, .f32⟩
  | .hbm, ⟨17, _⟩ => ⟨S640x640, .f32⟩
  | .hbm, ⟨18, _⟩ => ⟨S640x640x1x1, .f32⟩
  | .hbm, ⟨19, _⟩ => ⟨S640x640, .f32⟩
  | .hbm, ⟨20, _⟩ => ⟨S2560x640, .f32⟩
  | .hbm, ⟨21, _⟩ => ⟨S640x640x1x1, .f32⟩
  | .hbm, ⟨22, _⟩ => ⟨S640x640, .f32⟩
  | .hbm, ⟨23, _⟩ => ⟨S640x640x1x1, .f32⟩
  | .hbm, ⟨24, _⟩ => ⟨S640x640, .f32⟩
  | .hbm, ⟨25, _⟩ => ⟨S640x640x1x1, .f32⟩
  | .hbm, ⟨26, _⟩ => ⟨S640x640, .f32⟩
  | .hbm, ⟨27, _⟩ => ⟨S640x640x1x1, .f32⟩
  | .hbm, ⟨28, _⟩ => ⟨S640x640, .f32⟩
  | .hbm, ⟨29, _⟩ => ⟨S2560x640, .f32⟩
  | .hbm, ⟨30, _⟩ => ⟨S640x640x1x1, .f32⟩
  | .hbm, ⟨31, _⟩ => ⟨S640x640, .f32⟩
  | .hbm, ⟨32, _⟩ => ⟨S640x640x1x1, .f32⟩
  | .hbm, ⟨33, _⟩ => ⟨S640x640, .f32⟩
  | .hbm, ⟨34, _⟩ => ⟨S640x640x1x1, .f32⟩
  | .hbm, ⟨35, _⟩ => ⟨S640x640, .f32⟩
  | .hbm, ⟨36, _⟩ => ⟨S640x640x1x1, .f32⟩
  | .hbm, ⟨37, _⟩ => ⟨S640x640, .f32⟩
  | .hbm, ⟨38, _⟩ => ⟨S2560x640, .f32⟩
  | .hbm, ⟨39, _⟩ => ⟨S640x640x1x1, .f32⟩
  | .hbm, ⟨40, _⟩ => ⟨S640x640, .f32⟩
  | .hbm, ⟨41, _⟩ => ⟨S640x640x1x1, .f32⟩
  | .hbm, ⟨42, _⟩ => ⟨S640x640, .f32⟩
  | .hbm, ⟨43, _⟩ => ⟨S640x640x1x1, .f32⟩
  | .hbm, ⟨44, _⟩ => ⟨S640x640, .f32⟩
  | .hbm, ⟨45, _⟩ => ⟨S640x640x1x1, .f32⟩
  | .hbm, ⟨46, _⟩ => ⟨S640x640, .f32⟩
  | .hbm, ⟨47, _⟩ => ⟨S2560x640, .f32⟩
  | .hbm, ⟨48, _⟩ => ⟨S1x2560x640, .f32⟩
  | .hbm, ⟨49, _⟩ => ⟨S1x2560x640, .f32⟩
  | .hbm, ⟨50, _⟩ => ⟨S1x2560x640, .f32⟩
  | .hbm, ⟨51, _⟩ => ⟨S1x2560x640, .f32⟩
  | .hbm, ⟨52, _⟩ => ⟨S4x2560x640, .f32⟩
  | .hbm, ⟨53, _⟩ => ⟨S2x4x48x64x640, .f32⟩
  | .hbm, ⟨54, _⟩ => ⟨S2x12x2x640, .f32⟩
  | .hbm, ⟨55, _⟩ => ⟨S2x12288x640, .f32⟩
  | .hbm, ⟨56, _⟩ => ⟨S640x640, .f32⟩
  | .hbm, ⟨57, _⟩ => ⟨S640x640, .f32⟩
  | .hbm, ⟨58, _⟩ => ⟨S1x640, .f32⟩
  | .hbm, ⟨59, _⟩ => ⟨S2x12288x640, .f32⟩
  | .hbm, ⟨60, _⟩ => ⟨S2x6x2x640, .f32⟩
  | .hbm, ⟨61, _⟩ => ⟨S133x640, .f32⟩
  | .hbm, ⟨62, _⟩ => ⟨S640x133, .f32⟩
  | .hbm, ⟨63, _⟩ => ⟨S1x133, .f32⟩
  | .hbm, ⟨64, _⟩ => ⟨S2x12288x133, .f32⟩
  | .hbm, ⟨65, _⟩ => ⟨S2x6x2x133, .f32⟩
  | .hbm, ⟨66, _⟩ => ⟨S2x2x2x48x64x133, .f32⟩
  | .hbm, ⟨67, _⟩ => ⟨S2x133x48x2x64x2, .f32⟩
  | .hbm, ⟨68, _⟩ => ⟨S266x96x128, .f32⟩
  | .hbm, ⟨69, _⟩ => ⟨S14x19x2, .f32⟩
  | .hbm, ⟨70, _⟩ => ⟨S14x19x1, .f32⟩
  | .hbm, ⟨71, _⟩ => ⟨S2x133x2, .f32⟩
  | .hbm, ⟨72, _⟩ => ⟨S2x133, .f32⟩
  | .local _ .vmem, ⟨0, _⟩ => ⟨S1x50x66x640, .f32⟩
  | .local _ .vmem, ⟨1, _⟩ => ⟨S1x50x66x640, .f32⟩
  | .local _ .vmem, ⟨2, _⟩ => ⟨S4x2560x640, .f32⟩
  | .local _ .vmem, ⟨3, _⟩ => ⟨S1x4x4x64x640, .f32⟩
  | .local _ .vmem, ⟨4, _⟩ => ⟨S1x4x4x64x640, .f32⟩
  | .local _ .vmem, ⟨5, _⟩ => ⟨S1x1x2x640, .f32⟩
  | .local _ .vmem, ⟨6, _⟩ => ⟨S1x1x2x640, .f32⟩
  | .local _ .vmem, ⟨7, _⟩ => ⟨S1x2048x640, .f32⟩
  | .local _ .vmem, ⟨8, _⟩ => ⟨S1x2048x640, .f32⟩
  | .local _ .vmem, ⟨9, _⟩ => ⟨S2x12x2x640, .f32⟩
  | .local _ .vmem, ⟨10, _⟩ => ⟨S640x640, .f32⟩
  | .local _ .vmem, ⟨11, _⟩ => ⟨S1x640, .f32⟩
  | .local _ .vmem, ⟨12, _⟩ => ⟨S1x2048x640, .f32⟩
  | .local _ .vmem, ⟨13, _⟩ => ⟨S1x2048x640, .f32⟩
  | .local _ .vmem, ⟨14, _⟩ => ⟨S1x1x2x640, .f32⟩
  | .local _ .vmem, ⟨15, _⟩ => ⟨S1x1x2x640, .f32⟩
  | .local _ .vmem, ⟨16, _⟩ => ⟨S1x2048x640, .f32⟩
  | .local _ .vmem, ⟨17, _⟩ => ⟨S1x2048x640, .f32⟩
  | .local _ .vmem, ⟨18, _⟩ => ⟨S2x6x2x640, .f32⟩
  | .local _ .vmem, ⟨19, _⟩ => ⟨S640x133, .f32⟩
  | .local _ .vmem, ⟨20, _⟩ => ⟨S1x133, .f32⟩
  | .local _ .vmem, ⟨21, _⟩ => ⟨S1x2048x133, .f32⟩
  | .local _ .vmem, ⟨22, _⟩ => ⟨S1x2048x133, .f32⟩
  | .local _ .vmem, ⟨23, _⟩ => ⟨S1x1x2x133, .f32⟩
  | .local _ .vmem, ⟨24, _⟩ => ⟨S1x1x2x133, .f32⟩
  | .local _ .vmem, ⟨25, _⟩ => ⟨S19x96x128, .f32⟩
  | .local _ .vmem, ⟨26, _⟩ => ⟨S19x96x128, .f32⟩
  | .local _ .vmem, ⟨27, _⟩ => ⟨S96x96, .f32⟩
  | .local _ .vmem, ⟨28, _⟩ => ⟨S128x128, .f32⟩
  | .local _ .vmem, ⟨29, _⟩ => ⟨S1x19x2, .f32⟩
  | .local _ .vmem, ⟨30, _⟩ => ⟨S1x19x2, .f32⟩
  | .local _ .vmem, ⟨31, _⟩ => ⟨S1x19x1, .f32⟩
  | .local _ .vmem, ⟨32, _⟩ => ⟨S1x19x1, .f32⟩
  | _, _ => ⟨S2x640x48x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43_0 : Ref sig .tc := ⟨.hbm, 53, rfl⟩
abbrev main_v43_1 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48_0 : Ref sig .tc := ⟨.hbm, 59, rfl⟩
abbrev main_v48_1 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52_0 : Ref sig .tc := ⟨.hbm, 64, rfl⟩
abbrev main_v52_1 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56_0 : Ref sig .tc := ⟨.hbm, 69, rfl⟩
abbrev main_v56_1 : Ref sig .tc := ⟨.hbm, 70, rfl⟩
abbrev main_v57 : Ref sig .tc := ⟨.hbm, 71, rfl⟩
abbrev main_v58 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem3_1 : DmaSem sig := 30
abbrev cc3_sem4_0 : DmaSem sig := 31
abbrev cc3_sem4_1 : DmaSem sig := 32

abbrev nD : Nat := 1
abbrev τ : Topo := Topo.v7x

variable {F : FTy → Type} [FloatOps F]

abbrev grid0 : Pipeline.Grid := ⟨2, ![2, 12], ![false, false]⟩

def k0_off1 (i : grid0.Coords) (c0_i32 : BitVec 32) (c0_i32_0 : BitVec 32) : Fin 4 → Nat :=
  let c0 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let v2 : BitVec 32 := Scalar.addi v1 c0_i32_0
  let v3 : Index := Scalar.indexCast v2
  let c0_1 : Index := 0#32
  let c0_2 : Index := 0#32
  ![0, v3.toNat, 0, 0]
def k0_off2 (i : grid0.Coords) (c0_i32_3 : BitVec 32) (c0_i32_4 : BitVec 32) : Fin 4 → Nat :=
  let c0_5 : Index := 0#32
  let arg1 : BitVec 32 := BitVec.ofNat 32 (i 1).val
  let c4_i32 : BitVec 32 := 4#32
  let v0 : BitVec 32 := Scalar.muli arg1 c4_i32
  let v7 : BitVec 32 := Scalar.addi v0 c0_i32_3
  let v8 : BitVec 32 := Scalar.addi v7 c0_i32_4
  let v9 : Index := Scalar.indexCast v8
  let c1 : Index := 1#32
  let c0_6 : Index := 0#32
  ![0, v9.toNat, 1, 0]
def k0_off3 (i : grid0.Coords) (c0_i32_31 : BitVec 32) (c0_i32_32 : BitVec 32) : Fin 4 → Nat :=
  let c0_33 : Index := 0#32
  let arg1 : BitVec 32 := BitVec.ofNat 32 (i 1).val
  let c4_i32 : BitVec 32 := 4#32
  let v0 : BitVec 32 := Scalar.muli arg1 c4_i32
  let v44 : BitVec 32 := Scalar.addi v0 c0_i32_31
  let v45 : BitVec 32 := Scalar.addi v44 c0_i32_32
  let v46 : Index := Scalar.indexCast v45
  let c2 : Index := 2#32
  let c0_34 : Index := 0#32
  ![0, v46.toNat, 2, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x50x66x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x2560x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4x4x64x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 6], ![false, false]⟩

def k1_off1 (i : grid1.Coords) : Fin 4 → Nat :=
  let arg0 : BitVec 32 := BitVec.ofNat 32 (i 0).val
  let v0 : Index := Scalar.indexCast arg0
  let c0 : Index := 0#32
  let c0_0 : Index := 0#32
  let c0_1 : Index := 0#32
  ![v0.toNat, 0, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x2048x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2x12x2x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S640x640 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x640 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x2048x640 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x2x640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 6], ![false, false]⟩

def k2_off1 (i : grid2.Coords) : Fin 4 → Nat :=
  let arg0 : BitVec 32 := BitVec.ofNat 32 (i 0).val
  let v0 : Index := Scalar.indexCast arg0
  let c0 : Index := 0#32
  let c0_0 : Index := 0#32
  let c0_1 : Index := 0#32
  ![v0.toNat, 0, 0, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x2048x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S2x6x2x640 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S640x133 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x133 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x2048x133 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x2x133 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨1, ![14], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S19x96x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x19x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x19x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== KernelIdeal.lean ====
variable {F : FTy → Type} [FloatOps F] [Named F]
def κ : String → Option EReal := fun
  | "inv_npix" => some ((1 / 12288 : ℝ) : EReal)
  | _ => none
-- ==== ReferenceIdeal.lean ====
abbrev S2x640x48x64 : Shape := ⟨4, ![2, 640, 48, 64]⟩
abbrev S640x640x4x4 : Shape := ⟨4, ![640, 640, 4, 4]⟩
abbrev S640x640x1x1 : Shape := ⟨4, ![640, 640, 1, 1]⟩
abbrev S640 : Shape := ⟨1, ![640]⟩
abbrev S133x640x1x1 : Shape := ⟨4, ![133, 640, 1, 1]⟩
abbrev S133 : Shape := ⟨1, ![133]⟩
abbrev S_ : Shape := ⟨0, ![]⟩
abbrev S2x640x99x131 : Shape := ⟨4, ![2, 640, 99, 131]⟩
abbrev S2x640x96x128 : Shape := ⟨4, ![2, 640, 96, 128]⟩
abbrev S640x640 : Shape := ⟨2, ![640, 640]⟩
abbrev S640x2x96x128 : Shape := ⟨4, ![640, 2, 96, 128]⟩
abbrev S2x640 : Shape := ⟨2, ![2, 640]⟩
abbrev S2x640x1x1 : Shape := ⟨4, ![2, 640, 1, 1]⟩
abbrev S1x640x1x1 : Shape := ⟨4, ![1, 640, 1, 1]⟩
abbrev S133x640 : Shape := ⟨2, ![133, 640]⟩
abbrev S133x2x96x128 : Shape := ⟨4, ![133, 2, 96, 128]⟩
abbrev S2x133x96x128 : Shape := ⟨4, ![2, 133, 96, 128]⟩
abbrev S1x133x1x1 : Shape := ⟨4, ![1, 133, 1, 1]⟩
abbrev S2x133x12288 : Shape := ⟨3, ![2, 133, 12288]⟩
abbrev S2x133 : Shape := ⟨2, ![2, 133]⟩
abbrev S2x133x1 : Shape := ⟨3, ![2, 133, 1]⟩
abbrev S2x133x106x138 : Shape := ⟨4, ![2, 133, 106, 138]⟩
abbrev S2x133x1x138 : Shape := ⟨4, ![2, 133, 1, 138]⟩
abbrev S2x133x8x138 : Shape := ⟨4, ![2, 133, 8, 138]⟩
abbrev S2x133x114x138 : Shape := ⟨4, ![2, 133, 114, 138]⟩
abbrev S2x133x122x138 : Shape := ⟨4, ![2, 133, 122, 138]⟩
abbrev S2x133x122x1 : Shape := ⟨4, ![2, 133, 122, 1]⟩
abbrev S2x133x122x8 : Shape := ⟨4, ![2, 133, 122, 8]⟩
abbrev S2x133x122x146 : Shape := ⟨4, ![2, 133, 122, 146]⟩
abbrev S2x133x122x154 : Shape := ⟨4, ![2, 133, 122, 154]⟩
abbrev S2x133x106x154 : Shape := ⟨4, ![2, 133, 106, 154]⟩
abbrev S2x133x1x1 : Shape := ⟨4, ![2, 133, 1, 1]⟩
abbrev S2x133x1x128 : Shape := ⟨4, ![2, 133, 1, 128]⟩
abbrev S2x133x98x128 : Shape := ⟨4, ![2, 133, 98, 128]⟩
abbrev S2x133x98x1 : Shape := ⟨4, ![2, 133, 98, 1]⟩
abbrev S2x133x98x130 : Shape := ⟨4, ![2, 133, 98, 130]⟩
abbrev S2x133x2 : Shape := ⟨3, ![2, 133, 2]⟩
abbrev S2x133x3x3 : Shape := ⟨4, ![2, 133, 3, 3]⟩

abbrev nBuf : Space → Nat
  | .hbm => 523
  | .vmem => 0
  | .smem => 0
  | _ => 0

abbrev hbmTy0_0 (i : Nat) : BufTy := match i % 128 with
  | 0 => ⟨S2x640x48x64, .f32⟩
  | 1 => ⟨S640x640x4x4, .f32⟩
  | 2 => ⟨S640x640x1x1, .f32⟩
  | 3 => ⟨S640, .f32⟩
  | 4 => ⟨S133x640x1x1, .f32⟩
  | 5 => ⟨S133, .f32⟩
  | 6 => ⟨S_, .f32⟩
  | 7 => ⟨S2x640x99x131, .f32⟩
  | 8 => ⟨S640x640x4x4, .f32⟩
  | 9 => ⟨S2x640x96x128, .f32⟩
  | 10 => ⟨S640x640x1x1, .f32⟩
  | 11 => ⟨S640x640, .f32⟩
  | 12 => ⟨S640x2x96x128, .f32⟩
  | 13 => ⟨S2x640x96x128, .f32⟩
  | 14 => ⟨S_, .f32⟩
  | 15 => ⟨S2x640x96x128, .f32⟩
  | 16 => ⟨S2x640x96x128, .f32⟩
  | 17 => ⟨S2x640x96x128, .f32⟩
  | 18 => ⟨S640x640x1x1, .f32⟩
  | 19 => ⟨S640x640, .f32⟩
  | 20 => ⟨S640x2x96x128, .f32⟩
  | 21 => ⟨S2x640x96x128, .f32⟩
  | 22 => ⟨S2x640x96x128, .f32⟩
  | 23 => ⟨S2x640x96x128, .f32⟩
  | 24 => ⟨S640x640x1x1, .f32⟩
  | 25 => ⟨S640x640, .f32⟩
  | 26 => ⟨S640x2x96x128, .f32⟩
  | 27 => ⟨S2x640x96x128, .f32⟩
  | 28 => ⟨S2x640x96x128, .f32⟩
  | 29 => ⟨S2x640x96x128, .f32⟩
  | 30 => ⟨S640x640x1x1, .f32⟩
  | 31 => ⟨S640x640, .f32⟩
  | 32 => ⟨S640x2x96x128, .f32⟩
  | 33 => ⟨S2x640x96x128, .f32⟩
  | 34 => ⟨S2x640x96x128, .f32⟩
  | 35 => ⟨S2x640x96x128, .f32⟩
  | 36 => ⟨S640x640x1x1, .f32⟩
  | 37 => ⟨S640x640, .f32⟩
  | 38 => ⟨S640x2x96x128, .f32⟩
  | 39 => ⟨S2x640x96x128, .f32⟩
  | 40 => ⟨S2x640x96x128, .f32⟩
  | 41 => ⟨S2x640x96x128, .f32⟩
  | 42 => ⟨S640x640x1x1, .f32⟩
  | 43 => ⟨S640x640, .f32⟩
  | 44 => ⟨S640x2x96x128, .f32⟩
  | 45 => ⟨S2x640x96x128, .f32⟩
  | 46 => ⟨S2x640x96x128, .f32⟩
  | 47 => ⟨S2x640x96x128, .f32⟩
  | 48 => ⟨S640x640x1x1, .f32⟩
  | 49 => ⟨S640x640, .f32⟩
  | 50 => ⟨S640x2x96x128, .f32⟩
  | 51 => ⟨S2x640x96x128, .f32⟩
  | 52 => ⟨S2x640x96x128, .f32⟩
  | 53 => ⟨S2x640x96x128, .f32⟩
  | 54 => ⟨S640x640x1x1, .f32⟩
  | 55 => ⟨S640x640, .f32⟩
  | 56 => ⟨S640x2x96x128, .f32⟩
  | 57 => ⟨S2x640x96x128, .f32⟩
  | 58 => ⟨S2x640x96x128, .f32⟩
  | 59 => ⟨S2x640x96x128, .f32⟩
  | 60 => ⟨S640x640x1x1, .f32⟩
  | 61 => ⟨S640x640, .f32⟩
  | 62 => ⟨S640x2x96x128, .f32⟩
  | 63 => ⟨S2x640x96x128, .f32⟩
  | 64 => ⟨S2x640x96x128, .f32⟩
  | 65 => ⟨S2x640x96x128, .f32⟩
  | 66 => ⟨S640x640x1x1, .f32⟩
  | 67 => ⟨S640x640, .f32⟩
  | 68 => ⟨S640x2x96x128, .f32⟩
  | 69 => ⟨S2x640x96x128, .f32⟩
  | 70 => ⟨S2x640x96x128, .f32⟩
  | 71 => ⟨S2x640x96x128, .f32⟩
  | 72 => ⟨S640x640x1x1, .f32⟩
  | 73 => ⟨S640x640, .f32⟩
  | 74 => ⟨S640x2x96x128, .f32⟩
  | 75 => ⟨S2x640x96x128, .f32⟩
  | 76 => ⟨S2x640x96x128, .f32⟩
  | 77 => ⟨S2x640x96x128, .f32⟩
  | 78 => ⟨S640x640x1x1, .f32⟩
  | 79 => ⟨S640x640, .f32⟩
  | 80 => ⟨S640x2x96x128, .f32⟩
  | 81 => ⟨S2x640x96x128, .f32⟩
  | 82 => ⟨S2x640x96x128, .f32⟩
  | 83 => ⟨S2x640x96x128, .f32⟩
  | 84 => ⟨S640x640x1x1, .f32⟩
  | 85 => ⟨S640x640, .f32⟩
  | 86 => ⟨S640x2x96x128, .f32⟩
  | 87 => ⟨S2x640x96x128, .f32⟩
  | 88 => ⟨S2x640x96x128, .f32⟩
  | 89 => ⟨S2x640x96x128, .f32⟩
  | 90 => ⟨S640x640x1x1, .f32⟩
  | 91 => ⟨S640x640, .f32⟩
  | 92 => ⟨S640x2x96x128, .f32⟩
  | 93 => ⟨S2x640x96x128, .f32⟩
  | 94 => ⟨S2x640x96x128, .f32⟩
  | 95 => ⟨S2x640x96x128, .f32⟩
  | 96 => ⟨S640x640x1x1, .f32⟩
  | 97 => ⟨S640x640, .f32⟩
  | 98 => ⟨S640x2x96x128, .f32⟩
  | 99 => ⟨S2x640x96x128, .f32⟩
  | 100 => ⟨S2x640x96x128, .f32⟩
  | 101 => ⟨S2x640x96x128, .f32⟩
  | 102 => ⟨S640x640x1x1, .f32⟩
  | 103 => ⟨S640x640, .f32⟩
  | 104 => ⟨S640x2x96x128, .f32⟩
  | 105 => ⟨S2x640x96x128, .f32⟩
  | 106 => ⟨S2x640x96x128, .f32⟩
  | 107 => ⟨S_, .f32⟩
  | 108 => ⟨S2x640, .f32⟩
  | 109 => ⟨S2x640x1x1, .f32⟩
  | 110 => ⟨S_, .f32⟩
  | 111 => ⟨S2x640x1x1, .f32⟩
  | 112 => ⟨S2x640x1x1, .f32⟩
  | 113 => ⟨S2x640x96x128, .f32⟩
  | 114 => ⟨S2x640x96x128, .f32⟩
  | 115 => ⟨S2x640x96x128, .f32⟩
  | 116 => ⟨S_, .f32⟩
  | 117 => ⟨S2x640, .f32⟩
  | 118 => ⟨S2x640x1x1, .f32⟩
  | 119 => ⟨S_, .f32⟩
  | 120 => ⟨S2x640x1x1, .f32⟩
  | 121 => ⟨S2x640x1x1, .f32⟩
  | 122 => ⟨S2x640x96x128, .f32⟩
  | 123 => ⟨S2x640x96x128, .f32⟩
  | 124 => ⟨S_, .f32⟩
  | 125 => ⟨S2x640x1x1, .f32⟩
  | 126 => ⟨S2x640x1x1, .f32⟩
  | 127 => ⟨S2x640x1x1, .f32⟩
  | _ => ⟨S2x640x48x64, .f32⟩

abbrev hbmTy0_1 (i : Nat) : BufTy := match i % 128 with
  | 0 => ⟨S2x640x96x128, .f32⟩
  | 1 => ⟨S2x640x96x128, .f32⟩
  | 2 => ⟨S2x640x96x128, .f32⟩
  | 3 => ⟨S2x640x96x128, .f32⟩
  | 4 => ⟨S_, .f32⟩
  | 5 => ⟨S2x640x96x128, .f32⟩
  | 6 => ⟨S2x640x96x128, .f32⟩
  | 7 => ⟨S_, .f32⟩
  | 8 => ⟨S2x640x96x128, .f32⟩
  | 9 => ⟨S2x640x96x128, .f32⟩
  | 10 => ⟨S2x640x96x128, .f32⟩
  | 11 => ⟨S640x640, .f32⟩
  | 12 => ⟨S640x2x96x128, .f32⟩
  | 13 => ⟨S2x640x96x128, .f32⟩
  | 14 => ⟨S1x640x1x1, .f32⟩
  | 15 => ⟨S2x640x96x128, .f32⟩
  | 16 => ⟨S2x640x96x128, .f32⟩
  | 17 => ⟨S_, .f32⟩
  | 18 => ⟨S2x640, .f32⟩
  | 19 => ⟨S2x640x1x1, .f32⟩
  | 20 => ⟨S_, .f32⟩
  | 21 => ⟨S2x640x1x1, .f32⟩
  | 22 => ⟨S2x640x1x1, .f32⟩
  | 23 => ⟨S2x640x96x128, .f32⟩
  | 24 => ⟨S2x640x96x128, .f32⟩
  | 25 => ⟨S2x640x96x128, .f32⟩
  | 26 => ⟨S_, .f32⟩
  | 27 => ⟨S2x640, .f32⟩
  | 28 => ⟨S2x640x1x1, .f32⟩
  | 29 => ⟨S_, .f32⟩
  | 30 => ⟨S2x640x1x1, .f32⟩
  | 31 => ⟨S2x640x1x1, .f32⟩
  | 32 => ⟨S2x640x96x128, .f32⟩
  | 33 => ⟨S2x640x96x128, .f32⟩
  | 34 => ⟨S_, .f32⟩
  | 35 => ⟨S2x640x1x1, .f32⟩
  | 36 => ⟨S2x640x1x1, .f32⟩
  | 37 => ⟨S2x640x1x1, .f32⟩
  | 38 => ⟨S2x640x96x128, .f32⟩
  | 39 => ⟨S2x640x96x128, .f32⟩
  | 40 => ⟨S2x640x96x128, .f32⟩
  | 41 => ⟨S2x640x96x128, .f32⟩
  | 42 => ⟨S_, .f32⟩
  | 43 => ⟨S2x640x96x128, .f32⟩
  | 44 => ⟨S2x640x96x128, .f32⟩
  | 45 => ⟨S_, .f32⟩
  | 46 => ⟨S2x640x96x128, .f32⟩
  | 47 => ⟨S2x640x96x128, .f32⟩
  | 48 => ⟨S2x640x96x128, .f32⟩
  | 49 => ⟨S133x640, .f32⟩
  | 50 => ⟨S133x2x96x128, .f32⟩
  | 51 => ⟨S2x133x96x128, .f32⟩
  | 52 => ⟨S1x133x1x1, .f32⟩
  | 53 => ⟨S2x133x96x128, .f32⟩
  | 54 => ⟨S2x133x96x128, .f32⟩
  | 55 => ⟨S2x133x12288, .f32⟩
  | 56 => ⟨S_, .f32⟩
  | 57 => ⟨S2x133, .f32⟩
  | 58 => ⟨S2x133x1, .f32⟩
  | 59 => ⟨S2x133x12288, .f32⟩
  | 60 => ⟨S2x133x12288, .i1⟩
  | 61 => ⟨S2x133x12288, .i32⟩
  | 62 => ⟨S_, .i32⟩
  | 63 => ⟨S_, .i32⟩
  | 64 => ⟨S2x133x12288, .i32⟩
  | 65 => ⟨S2x133x12288, .i32⟩
  | 66 => ⟨S_, .i32⟩
  | 67 => ⟨S2x133, .i32⟩
  | 68 => ⟨S2x133x1, .i32⟩
  | 69 => ⟨S2x133x1, .f32⟩
  | 70 => ⟨S2x133, .f32⟩
  | 71 => ⟨S_, .i32⟩
  | 72 => ⟨S2x133, .i32⟩
  | 73 => ⟨S2x133, .i32⟩
  | 74 => ⟨S_, .i32⟩
  | 75 => ⟨S2x133, .i32⟩
  | 76 => ⟨S2x133, .i32⟩
  | 77 => ⟨S_, .f32⟩
  | 78 => ⟨S2x133, .f32⟩
  | 79 => ⟨S2x133, .i1⟩
  | 80 => ⟨S_, .i32⟩
  | 81 => ⟨S_, .f32⟩
  | 82 => ⟨S2x133x106x138, .f32⟩
  | 83 => ⟨S_, .i32⟩
  | 84 => ⟨S2x133x1x138, .f32⟩
  | 85 => ⟨S2x133x8x138, .f32⟩
  | 86 => ⟨S2x133x8x138, .f32⟩
  | 87 => ⟨S2x133x114x138, .f32⟩
  | 88 => ⟨S2x133x1x138, .f32⟩
  | 89 => ⟨S2x133x8x138, .f32⟩
  | 90 => ⟨S2x133x8x138, .f32⟩
  | 91 => ⟨S2x133x122x138, .f32⟩
  | 92 => ⟨S2x133x122x1, .f32⟩
  | 93 => ⟨S2x133x122x8, .f32⟩
  | 94 => ⟨S2x133x122x8, .f32⟩
  | 95 => ⟨S2x133x122x146, .f32⟩
  | 96 => ⟨S2x133x122x1, .f32⟩
  | 97 => ⟨S2x133x122x8, .f32⟩
  | 98 => ⟨S2x133x122x8, .f32⟩
  | 99 => ⟨S2x133x122x154, .f32⟩
  | 100 => ⟨S2x133x106x154, .f32⟩
  | 101 => ⟨S_, .f32⟩
  | 102 => ⟨S2x133x106x154, .f32⟩
  | 103 => ⟨S2x133x106x154, .f32⟩
  | 104 => ⟨S_, .f32⟩
  | 105 => ⟨S2x133x106x154, .f32⟩
  | 106 => ⟨S2x133x106x154, .f32⟩
  | 107 => ⟨S2x133x106x154, .f32⟩
  | 108 => ⟨S_, .f32⟩
  | 109 => ⟨S2x133x106x154, .f32⟩
  | 110 => ⟨S2x133x106x154, .f32⟩
  | 111 => ⟨S2x133x106x154, .f32⟩
  | 112 => ⟨S2x133x106x154, .f32⟩
  | 113 => ⟨S_, .f32⟩
  | 114 => ⟨S2x133x106x154, .f32⟩
  | 115 => ⟨S2x133x106x154, .f32⟩
  | 116 => ⟨S2x133x106x154, .f32⟩
  | 117 => ⟨S2x133x106x154, .f32⟩
  | 118 => ⟨S_, .f32⟩
  | 119 => ⟨S2x133x106x154, .f32⟩
  | 120 => ⟨S2x133x106x154, .f32⟩
  | 121 => ⟨S2x133x106x154, .f32⟩
  | 122 => ⟨S2x133x106x154, .f32⟩
  | 123 => ⟨S_, .f32⟩
  | 124 => ⟨S2x133x106x154, .f32⟩
  | 125 => ⟨S2x133x106x154, .f32⟩
  | 126 => ⟨S2x133x106x154, .f32⟩
  | 127 => ⟨S2x133x106x154, .f32⟩
  | _ => ⟨S2x640x48x64, .f32⟩

abbrev hbmTy0_2 (i : Nat) : BufTy := match i % 128 with
  | 0 => ⟨S_, .f32⟩
  | 1 => ⟨S2x133x106x154, .f32⟩
  | 2 => ⟨S2x133x106x154, .f32⟩
  | 3 => ⟨S2x133x106x154, .f32⟩
  | 4 => ⟨S2x133x106x154, .f32⟩
  | 5 => ⟨S_, .f32⟩
  | 6 => ⟨S2x133x106x154, .f32⟩
  | 7 => ⟨S2x133x106x154, .f32⟩
  | 8 => ⟨S2x133x106x154, .f32⟩
  | 9 => ⟨S2x133x106x154, .f32⟩
  | 10 => ⟨S_, .f32⟩
  | 11 => ⟨S2x133x106x154, .f32⟩
  | 12 => ⟨S2x133x106x154, .f32⟩
  | 13 => ⟨S2x133x106x154, .f32⟩
  | 14 => ⟨S2x133x106x154, .f32⟩
  | 15 => ⟨S_, .f32⟩
  | 16 => ⟨S2x133x106x154, .f32⟩
  | 17 => ⟨S2x133x106x154, .f32⟩
  | 18 => ⟨S2x133x106x154, .f32⟩
  | 19 => ⟨S2x133x106x154, .f32⟩
  | 20 => ⟨S_, .f32⟩
  | 21 => ⟨S2x133x106x154, .f32⟩
  | 22 => ⟨S2x133x106x154, .f32⟩
  | 23 => ⟨S2x133x106x154, .f32⟩
  | 24 => ⟨S2x133x106x154, .f32⟩
  | 25 => ⟨S_, .f32⟩
  | 26 => ⟨S2x133x106x154, .f32⟩
  | 27 => ⟨S2x133x106x154, .f32⟩
  | 28 => ⟨S2x133x106x154, .f32⟩
  | 29 => ⟨S2x133x106x154, .f32⟩
  | 30 => ⟨S_, .f32⟩
  | 31 => ⟨S2x133x106x154, .f32⟩
  | 32 => ⟨S2x133x106x154, .f32⟩
  | 33 => ⟨S2x133x106x154, .f32⟩
  | 34 => ⟨S2x133x106x154, .f32⟩
  | 35 => ⟨S_, .f32⟩
  | 36 => ⟨S2x133x106x154, .f32⟩
  | 37 => ⟨S2x133x106x154, .f32⟩
  | 38 => ⟨S2x133x106x154, .f32⟩
  | 39 => ⟨S2x133x106x154, .f32⟩
  | 40 => ⟨S_, .f32⟩
  | 41 => ⟨S2x133x106x154, .f32⟩
  | 42 => ⟨S2x133x106x154, .f32⟩
  | 43 => ⟨S2x133x106x154, .f32⟩
  | 44 => ⟨S2x133x106x154, .f32⟩
  | 45 => ⟨S_, .f32⟩
  | 46 => ⟨S2x133x106x154, .f32⟩
  | 47 => ⟨S2x133x106x154, .f32⟩
  | 48 => ⟨S2x133x106x154, .f32⟩
  | 49 => ⟨S2x133x106x154, .f32⟩
  | 50 => ⟨S_, .f32⟩
  | 51 => ⟨S2x133x106x154, .f32⟩
  | 52 => ⟨S2x133x106x154, .f32⟩
  | 53 => ⟨S2x133x106x154, .f32⟩
  | 54 => ⟨S2x133x106x154, .f32⟩
  | 55 => ⟨S_, .f32⟩
  | 56 => ⟨S2x133x106x154, .f32⟩
  | 57 => ⟨S2x133x106x154, .f32⟩
  | 58 => ⟨S2x133x106x154, .f32⟩
  | 59 => ⟨S2x133x106x138, .f32⟩
  | 60 => ⟨S_, .f32⟩
  | 61 => ⟨S2x133x106x138, .f32⟩
  | 62 => ⟨S2x133x106x138, .f32⟩
  | 63 => ⟨S_, .f32⟩
  | 64 => ⟨S2x133x106x138, .f32⟩
  | 65 => ⟨S2x133x106x138, .f32⟩
  | 66 => ⟨S2x133x106x138, .f32⟩
  | 67 => ⟨S_, .f32⟩
  | 68 => ⟨S2x133x106x138, .f32⟩
  | 69 => ⟨S2x133x106x138, .f32⟩
  | 70 => ⟨S2x133x106x138, .f32⟩
  | 71 => ⟨S2x133x106x138, .f32⟩
  | 72 => ⟨S_, .f32⟩
  | 73 => ⟨S2x133x106x138, .f32⟩
  | 74 => ⟨S2x133x106x138, .f32⟩
  | 75 => ⟨S2x133x106x138, .f32⟩
  | 76 => ⟨S2x133x106x138, .f32⟩
  | 77 => ⟨S_, .f32⟩
  | 78 => ⟨S2x133x106x138, .f32⟩
  | 79 => ⟨S2x133x106x138, .f32⟩
  | 80 => ⟨S2x133x106x138, .f32⟩
  | 81 => ⟨S2x133x106x138, .f32⟩
  | 82 => ⟨S_, .f32⟩
  | 83 => ⟨S2x133x106x138, .f32⟩
  | 84 => ⟨S2x133x106x138, .f32⟩
  | 85 => ⟨S2x133x106x138, .f32⟩
  | 86 => ⟨S2x133x106x138, .f32⟩
  | 87 => ⟨S_, .f32⟩
  | 88 => ⟨S2x133x106x138, .f32⟩
  | 89 => ⟨S2x133x106x138, .f32⟩
  | 90 => ⟨S2x133x106x138, .f32⟩
  | 91 => ⟨S2x133x106x138, .f32⟩
  | 92 => ⟨S_, .f32⟩
  | 93 => ⟨S2x133x106x138, .f32⟩
  | 94 => ⟨S2x133x106x138, .f32⟩
  | 95 => ⟨S2x133x106x138, .f32⟩
  | 96 => ⟨S2x133x106x138, .f32⟩
  | 97 => ⟨S_, .f32⟩
  | 98 => ⟨S2x133x106x138, .f32⟩
  | 99 => ⟨S2x133x106x138, .f32⟩
  | 100 => ⟨S2x133x106x138, .f32⟩
  | 101 => ⟨S2x133x106x138, .f32⟩
  | 102 => ⟨S_, .f32⟩
  | 103 => ⟨S2x133x106x138, .f32⟩
  | 104 => ⟨S2x133x106x138, .f32⟩
  | 105 => ⟨S2x133x106x138, .f32⟩
  | 106 => ⟨S2x133x106x138, .f32⟩
  | 107 => ⟨S_, .f32⟩
  | 108 => ⟨S2x133x106x138, .f32⟩
  | 109 => ⟨S2x133x106x138, .f32⟩
  | 110 => ⟨S2x133x106x138, .f32⟩
  | 111 => ⟨S2x133x106x138, .f32⟩
  | 112 => ⟨S_, .f32⟩
  | 113 => ⟨S2x133x106x138, .f32⟩
  | 114 => ⟨S2x133x106x138, .f32⟩
  | 115 => ⟨S2x133x106x138, .f32⟩
  | 116 => ⟨S2x133x106x138, .f32⟩
  | 117 => ⟨S_, .f32⟩
  | 118 => ⟨S2x133x106x138, .f32⟩
  | 119 => ⟨S2x133x106x138, .f32⟩
  | 120 => ⟨S2x133x106x138, .f32⟩
  | 121 => ⟨S2x133x106x138, .f32⟩
  | 122 => ⟨S_, .f32⟩
  | 123 => ⟨S2x133x106x138, .f32⟩
  | 124 => ⟨S2x133x106x138, .f32⟩
  | 125 => ⟨S2x133x106x138, .f32⟩
  | 126 => ⟨S2x133x106x138, .f32⟩
  | 127 => ⟨S_, .f32⟩
  | _ => ⟨S2x640x48x64, .f32⟩

abbrev hbmTy0_3 (i : Nat) : BufTy := match i % 128 with
  | 0 => ⟨S2x133x106x138, .f32⟩
  | 1 => ⟨S2x133x106x138, .f32⟩
  | 2 => ⟨S2x133x106x138, .f32⟩
  | 3 => ⟨S2x133x106x138, .f32⟩
  | 4 => ⟨S_, .f32⟩
  | 5 => ⟨S2x133x106x138, .f32⟩
  | 6 => ⟨S2x133x106x138, .f32⟩
  | 7 => ⟨S2x133x106x138, .f32⟩
  | 8 => ⟨S2x133x106x138, .f32⟩
  | 9 => ⟨S_, .f32⟩
  | 10 => ⟨S2x133x106x138, .f32⟩
  | 11 => ⟨S2x133x106x138, .f32⟩
  | 12 => ⟨S2x133x106x138, .f32⟩
  | 13 => ⟨S2x133x106x138, .f32⟩
  | 14 => ⟨S_, .f32⟩
  | 15 => ⟨S2x133x106x138, .f32⟩
  | 16 => ⟨S2x133x106x138, .f32⟩
  | 17 => ⟨S2x133x106x138, .f32⟩
  | 18 => ⟨S2x133x96x128, .f32⟩
  | 19 => ⟨S_, .f32⟩
  | 20 => ⟨S2x133, .f32⟩
  | 21 => ⟨S2x133x1x1, .f32⟩
  | 22 => ⟨S_, .f32⟩
  | 23 => ⟨S2x133, .f32⟩
  | 24 => ⟨S2x133x1x1, .f32⟩
  | 25 => ⟨S_, .f32⟩
  | 26 => ⟨S2x133x1x1, .f32⟩
  | 27 => ⟨S2x133x1x1, .i1⟩
  | 28 => ⟨S_, .f32⟩
  | 29 => ⟨S2x133x1x1, .f32⟩
  | 30 => ⟨S2x133x1x1, .i1⟩
  | 31 => ⟨S_, .f32⟩
  | 32 => ⟨S_, .f32⟩
  | 33 => ⟨S2x133x1x1, .f32⟩
  | 34 => ⟨S2x133x1x1, .f32⟩
  | 35 => ⟨S2x133x1x1, .f32⟩
  | 36 => ⟨S2x133x96x128, .f32⟩
  | 37 => ⟨S2x133x96x128, .f32⟩
  | 38 => ⟨S2x133x96x128, .i1⟩
  | 39 => ⟨S2x133x96x128, .f32⟩
  | 40 => ⟨S_, .f32⟩
  | 41 => ⟨S_, .f32⟩
  | 42 => ⟨S_, .f32⟩
  | 43 => ⟨S2x133x96x128, .f32⟩
  | 44 => ⟨S2x133x96x128, .f32⟩
  | 45 => ⟨S_, .f32⟩
  | 46 => ⟨S2x133x96x128, .f32⟩
  | 47 => ⟨S2x133x96x128, .f32⟩
  | 48 => ⟨S2x133x96x128, .f32⟩
  | 49 => ⟨S2x133x1x128, .f32⟩
  | 50 => ⟨S2x133x1x128, .f32⟩
  | 51 => ⟨S2x133x98x128, .f32⟩
  | 52 => ⟨S2x133x98x1, .f32⟩
  | 53 => ⟨S2x133x98x1, .f32⟩
  | 54 => ⟨S2x133x98x130, .f32⟩
  | 55 => ⟨S2x133x1, .i32⟩
  | 56 => ⟨S2x133x1, .i32⟩
  | 57 => ⟨S2x133x2, .i32⟩
  | 58 => ⟨S2x133x3x3, .f32⟩
  | 59 => ⟨S2x133x1x1, .f32⟩
  | 60 => ⟨S2x133, .f32⟩
  | 61 => ⟨S2x133x1x1, .f32⟩
  | 62 => ⟨S2x133, .f32⟩
  | 63 => ⟨S2x133x1x1, .f32⟩
  | 64 => ⟨S2x133, .f32⟩
  | 65 => ⟨S2x133x1x1, .f32⟩
  | 66 => ⟨S2x133, .f32⟩
  | 67 => ⟨S2x133x1x1, .f32⟩
  | 68 => ⟨S2x133, .f32⟩
  | 69 => ⟨S2x133x1x1, .f32⟩
  | 70 => ⟨S2x133, .f32⟩
  | 71 => ⟨S2x133x1x1, .f32⟩
  | 72 => ⟨S2x133, .f32⟩
  | 73 => ⟨S2x133, .f32⟩
  | 74 => ⟨S_, .f32⟩
  | 75 => ⟨S2x133, .f32⟩
  | 76 => ⟨S2x133, .f32⟩
  | 77 => ⟨S2x133, .f32⟩
  | 78 => ⟨S_, .f32⟩
  | 79 => ⟨S2x133, .f32⟩
  | 80 => ⟨S2x133, .f32⟩
  | 81 => ⟨S_, .f32⟩
  | 82 => ⟨S2x133, .f32⟩
  | 83 => ⟨S2x133, .f32⟩
  | 84 => ⟨S2x133, .f32⟩
  | 85 => ⟨S2x133, .f32⟩
  | 86 => ⟨S_, .f32⟩
  | 87 => ⟨S2x133, .f32⟩
  | 88 => ⟨S2x133, .f32⟩
  | 89 => ⟨S2x133, .f32⟩
  | 90 => ⟨S2x133, .f32⟩
  | 91 => ⟨S2x133, .f32⟩
  | 92 => ⟨S2x133, .f32⟩
  | 93 => ⟨S_, .f32⟩
  | 94 => ⟨S2x133, .f32⟩
  | 95 => ⟨S2x133, .f32⟩
  | 96 => ⟨S2x133, .f32⟩
  | 97 => ⟨S2x133, .f32⟩
  | 98 => ⟨S2x133, .f32⟩
  | 99 => ⟨S2x133, .f32⟩
  | 100 => ⟨S_, .f32⟩
  | 101 => ⟨S2x133, .f32⟩
  | 102 => ⟨S2x133, .f32⟩
  | 103 => ⟨S_, .f32⟩
  | 104 => ⟨S2x133, .f32⟩
  | 105 => ⟨S2x133, .f32⟩
  | 106 => ⟨S_, .f32⟩
  | 107 => ⟨S2x133, .f32⟩
  | 108 => ⟨S2x133, .f32⟩
  | 109 => ⟨S2x133, .f32⟩
  | 110 => ⟨S2x133, .f32⟩
  | 111 => ⟨S2x133, .f32⟩
  | 112 => ⟨S2x133, .f32⟩
  | 113 => ⟨S2x133, .f32⟩
  | 114 => ⟨S2x133, .f32⟩
  | 115 => ⟨S2x133, .f32⟩
  | 116 => ⟨S2x133, .f32⟩
  | 117 => ⟨S2x133, .f32⟩
  | 118 => ⟨S2x133, .f32⟩
  | 119 => ⟨S2x133, .f32⟩
  | 120 => ⟨S2x133, .f32⟩
  | 121 => ⟨S2x133, .f32⟩
  | 122 => ⟨S2x133, .f32⟩
  | 123 => ⟨S_, .f32⟩
  | 124 => ⟨S2x133, .f32⟩
  | 125 => ⟨S2x133, .f32⟩
  | 126 => ⟨S2x133, .f32⟩
  | 127 => ⟨S2x133, .f32⟩
  | _ => ⟨S2x640x48x64, .f32⟩

abbrev hbmTy0_4 (i : Nat) : BufTy := match i % 128 with
  | 0 => ⟨S_, .f32⟩
  | 1 => ⟨S2x133, .f32⟩
  | 2 => ⟨S2x133, .f32⟩
  | 3 => ⟨S2x133x1, .f32⟩
  | 4 => ⟨S2x133x1, .f32⟩
  | 5 => ⟨S2x133x2, .f32⟩
  | 6 => ⟨S2x133x1, .i1⟩
  | 7 => ⟨S_, .f32⟩
  | 8 => ⟨S2x133x2, .i1⟩
  | 9 => ⟨S2x133x2, .f32⟩
  | 10 => ⟨S2x133x2, .f32⟩
  | _ => ⟨S2x640x48x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x640x48x64, .f32⟩

abbrev bufTy : (tb : Table) → Fin (tcTables nBuf tb) → BufTy
  | .hbm, ⟨i, _⟩ => hbmTy i
  | _, _ => ⟨S2x640x48x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_cst_1 : Ref sig .tc := ⟨.hbm, 107, rfl⟩
abbrev main_v99 : Ref sig .tc := ⟨.hbm, 108, rfl⟩
abbrev main_v100 : Ref sig .tc := ⟨.hbm, 109, rfl⟩
abbrev main_cst_2 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_cst_3 : Ref sig .tc := ⟨.hbm, 116, rfl⟩
abbrev main_v106 : Ref sig .tc := ⟨.hbm, 117, rfl⟩
abbrev main_v107 : Ref sig .tc := ⟨.hbm, 118, rfl⟩
abbrev main_cst_4 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_cst_5 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_call1_v0 : Ref sig .tc := ⟨.hbm, 130, rfl⟩
abbrev main_call1_v1 : Ref sig .tc := ⟨.hbm, 131, rfl⟩
abbrev main_call1_cst : Ref sig .tc := ⟨.hbm, 132, rfl⟩
abbrev main_call1_v2 : Ref sig .tc := ⟨.hbm, 133, rfl⟩
abbrev main_call1_v3 : Ref sig .tc := ⟨.hbm, 134, rfl⟩
abbrev main_call1_cst_0 : Ref sig .tc := ⟨.hbm, 135, rfl⟩
abbrev main_call1_v4 : Ref sig .tc := ⟨.hbm, 136, rfl⟩
abbrev main_call1_v5 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_6 : Ref sig .tc := ⟨.hbm, 145, rfl⟩
abbrev main_v124 : Ref sig .tc := ⟨.hbm, 146, rfl⟩
abbrev main_v125 : Ref sig .tc := ⟨.hbm, 147, rfl⟩
abbrev main_cst_7 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_cst_8 : Ref sig .tc := ⟨.hbm, 154, rfl⟩
abbrev main_v131 : Ref sig .tc := ⟨.hbm, 155, rfl⟩
abbrev main_v132 : Ref sig .tc := ⟨.hbm, 156, rfl⟩
abbrev main_cst_9 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_10 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_call2_v0 : Ref sig .tc := ⟨.hbm, 168, rfl⟩
abbrev main_call2_v1 : Ref sig .tc := ⟨.hbm, 169, rfl⟩
abbrev main_call2_cst : Ref sig .tc := ⟨.hbm, 170, rfl⟩
abbrev main_call2_v2 : Ref sig .tc := ⟨.hbm, 171, rfl⟩
abbrev main_call2_v3 : Ref sig .tc := ⟨.hbm, 172, rfl⟩
abbrev main_call2_cst_0 : Ref sig .tc := ⟨.hbm, 173, rfl⟩
abbrev main_call2_v4 : Ref sig .tc := ⟨.hbm, 174, rfl⟩
abbrev main_call2_v5 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_cst_11 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_c : Ref sig .tc := ⟨.hbm, 190, rfl⟩
abbrev main_call3_v0 : Ref sig .tc := ⟨.hbm, 191, rfl⟩
abbrev main_call3_v1 : Ref sig .tc := ⟨.hbm, 192, rfl⟩
abbrev main_v155 : Ref sig .tc := ⟨.hbm, 193, rfl⟩
abbrev main_c_12 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_c_13 : Ref sig .tc := ⟨.hbm, 199, rfl⟩
abbrev main_v160 : Ref sig .tc := ⟨.hbm, 200, rfl⟩
abbrev main_v161 : Ref sig .tc := ⟨.hbm, 201, rfl⟩
abbrev main_c_14 : Ref sig .tc := ⟨.hbm, 202, rfl⟩
abbrev main_v162 : Ref sig .tc := ⟨.hbm, 203, rfl⟩
abbrev main_v163 : Ref sig .tc := ⟨.hbm, 204, rfl⟩
abbrev main_cst_15 : Ref sig .tc := ⟨.hbm, 205, rfl⟩
abbrev main_v164 : Ref sig .tc := ⟨.hbm, 206, rfl⟩
abbrev main_v165 : Ref sig .tc := ⟨.hbm, 207, rfl⟩
abbrev main_c_16 : Ref sig .tc := ⟨.hbm, 208, rfl⟩
abbrev main_call4_v0 : Ref sig .tc := ⟨.hbm, 209, rfl⟩
abbrev main_v166 : Ref sig .tc := ⟨.hbm, 210, rfl⟩
abbrev main_c_17 : Ref sig .tc := ⟨.hbm, 211, rfl⟩
abbrev main_call5_v0 : Ref sig .tc := ⟨.hbm, 212, rfl⟩
abbrev main_call5_v1 : Ref sig .tc := ⟨.hbm, 213, rfl⟩
abbrev main_call5_v2 : Ref sig .tc := ⟨.hbm, 214, rfl⟩
abbrev main_call5_v3 : Ref sig .tc := ⟨.hbm, 215, rfl⟩
abbrev main_call5_v4 : Ref sig .tc := ⟨.hbm, 216, rfl⟩
abbrev main_call5_v5 : Ref sig .tc := ⟨.hbm, 217, rfl⟩
abbrev main_call5_v6 : Ref sig .tc := ⟨.hbm, 218, rfl⟩
abbrev main_call5_v7 : Ref sig .tc := ⟨.hbm, 219, rfl⟩
abbrev main_call5_v8 : Ref sig .tc := ⟨.hbm, 220, rfl⟩
abbrev main_call5_v9 : Ref sig .tc := ⟨.hbm, 221, rfl⟩
abbrev main_call5_v10 : Ref sig .tc := ⟨.hbm, 222, rfl⟩
abbrev main_call5_v11 : Ref sig .tc := ⟨.hbm, 223, rfl⟩
abbrev main_call5_v12 : Ref sig .tc := ⟨.hbm, 224, rfl⟩
abbrev main_call5_v13 : Ref sig .tc := ⟨.hbm, 225, rfl⟩
abbrev main_call5_v14 : Ref sig .tc := ⟨.hbm, 226, rfl⟩
abbrev main_v167 : Ref sig .tc := ⟨.hbm, 227, rfl⟩
abbrev main_v168 : Ref sig .tc := ⟨.hbm, 228, rfl⟩
abbrev main_cst_18 : Ref sig .tc := ⟨.hbm, 229, rfl⟩
abbrev main_v169 : Ref sig .tc := ⟨.hbm, 230, rfl⟩
abbrev main_v170 : Ref sig .tc := ⟨.hbm, 231, rfl⟩
abbrev main_cst_19 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_cst_20 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_cst_21 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_cst_22 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_23 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_cst_24 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_cst_25 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_cst_26 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_cst_27 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_cst_28 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_cst_29 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_cst_30 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_cst_31 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_cst_32 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_cst_33 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_cst_34 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_cst_35 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_cst_36 : Ref sig .tc := ⟨.hbm, 316, rfl⟩
abbrev main_v238 : Ref sig .tc := ⟨.hbm, 317, rfl⟩
abbrev main_v239 : Ref sig .tc := ⟨.hbm, 318, rfl⟩
abbrev main_cst_37 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩
abbrev main_cst_38 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_cst_39 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_cst_40 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_cst_41 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_cst_42 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_cst_43 : Ref sig .tc := ⟨.hbm, 348, rfl⟩
abbrev main_v263 : Ref sig .tc := ⟨.hbm, 349, rfl⟩
abbrev main_v264 : Ref sig .tc := ⟨.hbm, 350, rfl⟩
abbrev main_v265 : Ref sig .tc := ⟨.hbm, 351, rfl⟩
abbrev main_v266 : Ref sig .tc := ⟨.hbm, 352, rfl⟩
abbrev main_cst_44 : Ref sig .tc := ⟨.hbm, 353, rfl⟩
abbrev main_v267 : Ref sig .tc := ⟨.hbm, 354, rfl⟩
abbrev main_v268 : Ref sig .tc := ⟨.hbm, 355, rfl⟩
abbrev main_v269 : Ref sig .tc := ⟨.hbm, 356, rfl⟩
abbrev main_v270 : Ref sig .tc := ⟨.hbm, 357, rfl⟩
abbrev main_cst_45 : Ref sig .tc := ⟨.hbm, 358, rfl⟩
abbrev main_v271 : Ref sig .tc := ⟨.hbm, 359, rfl⟩
abbrev main_v272 : Ref sig .tc := ⟨.hbm, 360, rfl⟩
abbrev main_v273 : Ref sig .tc := ⟨.hbm, 361, rfl⟩
abbrev main_v274 : Ref sig .tc := ⟨.hbm, 362, rfl⟩
abbrev main_cst_46 : Ref sig .tc := ⟨.hbm, 363, rfl⟩
abbrev main_v275 : Ref sig .tc := ⟨.hbm, 364, rfl⟩
abbrev main_v276 : Ref sig .tc := ⟨.hbm, 365, rfl⟩
abbrev main_v277 : Ref sig .tc := ⟨.hbm, 366, rfl⟩
abbrev main_v278 : Ref sig .tc := ⟨.hbm, 367, rfl⟩
abbrev main_cst_47 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_cst_48 : Ref sig .tc := ⟨.hbm, 373, rfl⟩
abbrev main_v283 : Ref sig .tc := ⟨.hbm, 374, rfl⟩
abbrev main_v284 : Ref sig .tc := ⟨.hbm, 375, rfl⟩
abbrev main_v285 : Ref sig .tc := ⟨.hbm, 376, rfl⟩
abbrev main_v286 : Ref sig .tc := ⟨.hbm, 377, rfl⟩
abbrev main_cst_49 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_cst_50 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩
abbrev main_cst_51 : Ref sig .tc := ⟨.hbm, 388, rfl⟩
abbrev main_v295 : Ref sig .tc := ⟨.hbm, 389, rfl⟩
abbrev main_v296 : Ref sig .tc := ⟨.hbm, 390, rfl⟩
abbrev main_v297 : Ref sig .tc := ⟨.hbm, 391, rfl⟩
abbrev main_v298 : Ref sig .tc := ⟨.hbm, 392, rfl⟩
abbrev main_cst_52 : Ref sig .tc := ⟨.hbm, 393, rfl⟩
abbrev main_v299 : Ref sig .tc := ⟨.hbm, 394, rfl⟩
abbrev main_v300 : Ref sig .tc := ⟨.hbm, 395, rfl⟩
abbrev main_v301 : Ref sig .tc := ⟨.hbm, 396, rfl⟩
abbrev main_v302 : Ref sig .tc := ⟨.hbm, 397, rfl⟩
abbrev main_cst_53 : Ref sig .tc := ⟨.hbm, 398, rfl⟩
abbrev main_v303 : Ref sig .tc := ⟨.hbm, 399, rfl⟩
abbrev main_v304 : Ref sig .tc := ⟨.hbm, 400, rfl⟩
abbrev main_v305 : Ref sig .tc := ⟨.hbm, 401, rfl⟩
abbrev main_v306 : Ref sig .tc := ⟨.hbm, 402, rfl⟩
abbrev main_cst_54 : Ref sig .tc := ⟨.hbm, 403, rfl⟩
abbrev main_v307 : Ref sig .tc := ⟨.hbm, 404, rfl⟩
abbrev main_v308 : Ref sig .tc := ⟨.hbm, 405, rfl⟩
abbrev main_cst_55 : Ref sig .tc := ⟨.hbm, 406, rfl⟩
abbrev main_v309 : Ref sig .tc := ⟨.hbm, 407, rfl⟩
abbrev main_v310 : Ref sig .tc := ⟨.hbm, 408, rfl⟩
abbrev main_cst_56 : Ref sig .tc := ⟨.hbm, 409, rfl⟩
abbrev main_v311 : Ref sig .tc := ⟨.hbm, 410, rfl⟩
abbrev main_v312 : Ref sig .tc := ⟨.hbm, 411, rfl⟩
abbrev main_cst_57 : Ref sig .tc := ⟨.hbm, 412, rfl⟩
abbrev main_v313 : Ref sig .tc := ⟨.hbm, 413, rfl⟩
abbrev main_v314 : Ref sig .tc := ⟨.hbm, 414, rfl⟩
abbrev main_cst_58 : Ref sig .tc := ⟨.hbm, 415, rfl⟩
abbrev main_call6_v0 : Ref sig .tc := ⟨.hbm, 416, rfl⟩
abbrev main_call6_v1 : Ref sig .tc := ⟨.hbm, 417, rfl⟩
abbrev main_v315 : Ref sig .tc := ⟨.hbm, 418, rfl⟩
abbrev main_v316 : Ref sig .tc := ⟨.hbm, 419, rfl⟩
abbrev main_v317 : Ref sig .tc := ⟨.hbm, 420, rfl⟩
abbrev main_v318 : Ref sig .tc := ⟨.hbm, 421, rfl⟩
abbrev main_call7_v0 : Ref sig .tc := ⟨.hbm, 422, rfl⟩
abbrev main_v319 : Ref sig .tc := ⟨.hbm, 423, rfl⟩
abbrev main_cst_59 : Ref sig .tc := ⟨.hbm, 424, rfl⟩
abbrev main_cst_60 : Ref sig .tc := ⟨.hbm, 425, rfl⟩
abbrev main_call8_v0 : Ref sig .tc := ⟨.hbm, 426, rfl⟩
abbrev main_call8_v1 : Ref sig .tc := ⟨.hbm, 427, rfl⟩
abbrev main_call8_v2 : Ref sig .tc := ⟨.hbm, 428, rfl⟩
abbrev main_call8_v3 : Ref sig .tc := ⟨.hbm, 429, rfl⟩
abbrev main_call8_v4 : Ref sig .tc := ⟨.hbm, 430, rfl⟩
abbrev main_v320 : Ref sig .tc := ⟨.hbm, 431, rfl⟩
abbrev main_v321 : Ref sig .tc := ⟨.hbm, 432, rfl⟩
abbrev main_v322 : Ref sig .tc := ⟨.hbm, 433, rfl⟩
abbrev main_v323 : Ref sig .tc := ⟨.hbm, 434, rfl⟩
abbrev main_v324 : Ref sig .tc := ⟨.hbm, 435, rfl⟩
abbrev main_v325 : Ref sig .tc := ⟨.hbm, 436, rfl⟩
abbrev main_v326 : Ref sig .tc := ⟨.hbm, 437, rfl⟩
abbrev main_v327 : Ref sig .tc := ⟨.hbm, 438, rfl⟩
abbrev main_v328 : Ref sig .tc := ⟨.hbm, 439, rfl⟩
abbrev main_v329 : Ref sig .tc := ⟨.hbm, 440, rfl⟩
abbrev main_v330 : Ref sig .tc := ⟨.hbm, 441, rfl⟩
abbrev main_v331 : Ref sig .tc := ⟨.hbm, 442, rfl⟩
abbrev main_v332 : Ref sig .tc := ⟨.hbm, 443, rfl⟩
abbrev main_v333 : Ref sig .tc := ⟨.hbm, 444, rfl⟩
abbrev main_v334 : Ref sig .tc := ⟨.hbm, 445, rfl⟩
abbrev main_v335 : Ref sig .tc := ⟨.hbm, 446, rfl⟩
abbrev main_v336 : Ref sig .tc := ⟨.hbm, 447, rfl⟩
abbrev main_v337 : Ref sig .tc := ⟨.hbm, 448, rfl⟩
abbrev main_v338 : Ref sig .tc := ⟨.hbm, 449, rfl⟩
abbrev main_v339 : Ref sig .tc := ⟨.hbm, 450, rfl⟩
abbrev main_v340 : Ref sig .tc := ⟨.hbm, 451, rfl⟩
abbrev main_v341 : Ref sig .tc := ⟨.hbm, 452, rfl⟩
abbrev main_v342 : Ref sig .tc := ⟨.hbm, 453, rfl⟩
abbrev main_v343 : Ref sig .tc := ⟨.hbm, 454, rfl⟩
abbrev main_v344 : Ref sig .tc := ⟨.hbm, 455, rfl⟩
abbrev main_v345 : Ref sig .tc := ⟨.hbm, 456, rfl⟩
abbrev main_v346 : Ref sig .tc := ⟨.hbm, 457, rfl⟩
abbrev main_cst_61 : Ref sig .tc := ⟨.hbm, 458, rfl⟩
abbrev main_v347 : Ref sig .tc := ⟨.hbm, 459, rfl⟩
abbrev main_v348 : Ref sig .tc := ⟨.hbm, 460, rfl⟩
abbrev main_v349 : Ref sig .tc := ⟨.hbm, 461, rfl⟩
abbrev main_cst_62 : Ref sig .tc := ⟨.hbm, 462, rfl⟩
abbrev main_v350 : Ref sig .tc := ⟨.hbm, 463, rfl⟩
abbrev main_v351 : Ref sig .tc := ⟨.hbm, 464, rfl⟩
abbrev main_cst_63 : Ref sig .tc := ⟨.hbm, 465, rfl⟩
abbrev main_v352 : Ref sig .tc := ⟨.hbm, 466, rfl⟩
abbrev main_v353 : Ref sig .tc := ⟨.hbm, 467, rfl⟩
abbrev main_v354 : Ref sig .tc := ⟨.hbm, 468, rfl⟩
abbrev main_v355 : Ref sig .tc := ⟨.hbm, 469, rfl⟩
abbrev main_cst_64 : Ref sig .tc := ⟨.hbm, 470, rfl⟩
abbrev main_v356 : Ref sig .tc := ⟨.hbm, 471, rfl⟩
abbrev main_v357 : Ref sig .tc := ⟨.hbm, 472, rfl⟩
abbrev main_v358 : Ref sig .tc := ⟨.hbm, 473, rfl⟩
abbrev main_v359 : Ref sig .tc := ⟨.hbm, 474, rfl⟩
abbrev main_v360 : Ref sig .tc := ⟨.hbm, 475, rfl⟩
abbrev main_v361 : Ref sig .tc := ⟨.hbm, 476, rfl⟩
abbrev main_cst_65 : Ref sig .tc := ⟨.hbm, 477, rfl⟩
abbrev main_v362 : Ref sig .tc := ⟨.hbm, 478, rfl⟩
abbrev main_v363 : Ref sig .tc := ⟨.hbm, 479, rfl⟩
abbrev main_v364 : Ref sig .tc := ⟨.hbm, 480, rfl⟩
abbrev main_v365 : Ref sig .tc := ⟨.hbm, 481, rfl⟩
abbrev main_v366 : Ref sig .tc := ⟨.hbm, 482, rfl⟩
abbrev main_v367 : Ref sig .tc := ⟨.hbm, 483, rfl⟩
abbrev main_cst_66 : Ref sig .tc := ⟨.hbm, 484, rfl⟩
abbrev main_v368 : Ref sig .tc := ⟨.hbm, 485, rfl⟩
abbrev main_v369 : Ref sig .tc := ⟨.hbm, 486, rfl⟩
abbrev main_cst_67 : Ref sig .tc := ⟨.hbm, 487, rfl⟩
abbrev main_v370 : Ref sig .tc := ⟨.hbm, 488, rfl⟩
abbrev main_v371 : Ref sig .tc := ⟨.hbm, 489, rfl⟩
abbrev main_cst_68 : Ref sig .tc := ⟨.hbm, 490, rfl⟩
abbrev main_v372 : Ref sig .tc := ⟨.hbm, 491, rfl⟩
abbrev main_v373 : Ref sig .tc := ⟨.hbm, 492, rfl⟩
abbrev main_v374 : Ref sig .tc := ⟨.hbm, 493, rfl⟩
abbrev main_v375 : Ref sig .tc := ⟨.hbm, 494, rfl⟩
abbrev main_v376 : Ref sig .tc := ⟨.hbm, 495, rfl⟩
abbrev main_v377 : Ref sig .tc := ⟨.hbm, 496, rfl⟩
abbrev main_v378 : Ref sig .tc := ⟨.hbm, 497, rfl⟩
abbrev main_v379 : Ref sig .tc := ⟨.hbm, 498, rfl⟩
abbrev main_v380 : Ref sig .tc := ⟨.hbm, 499, rfl⟩
abbrev main_v381 : Ref sig .tc := ⟨.hbm, 500, rfl⟩
abbrev main_v382 : Ref sig .tc := ⟨.hbm, 501, rfl⟩
abbrev main_v383 : Ref sig .tc := ⟨.hbm, 502, rfl⟩
abbrev main_v384 : Ref sig .tc := ⟨.hbm, 503, rfl⟩
abbrev main_v385 : Ref sig .tc := ⟨.hbm, 504, rfl⟩
abbrev main_v386 : Ref sig .tc := ⟨.hbm, 505, rfl⟩
abbrev main_v387 : Ref sig .tc := ⟨.hbm, 506, rfl⟩
abbrev main_cst_69 : Ref sig .tc := ⟨.hbm, 507, rfl⟩
abbrev main_v388 : Ref sig .tc := ⟨.hbm, 508, rfl⟩
abbrev main_v389 : Ref sig .tc := ⟨.hbm, 509, rfl⟩
abbrev main_v390 : Ref sig .tc := ⟨.hbm, 510, rfl⟩
abbrev main_v391 : Ref sig .tc := ⟨.hbm, 511, rfl⟩
abbrev main_cst_70 : Ref sig .tc := ⟨.hbm, 512, rfl⟩
abbrev main_v392 : Ref sig .tc := ⟨.hbm, 513, rfl⟩
abbrev main_v393 : Ref sig .tc := ⟨.hbm, 514, rfl⟩
abbrev main_v394 : Ref sig .tc := ⟨.hbm, 515, rfl⟩
abbrev main_v395 : Ref sig .tc := ⟨.hbm, 516, rfl⟩
abbrev main_v396 : Ref sig .tc := ⟨.hbm, 517, rfl⟩
abbrev main_v397 : Ref sig .tc := ⟨.hbm, 518, rfl⟩
abbrev main_cst_71 : Ref sig .tc := ⟨.hbm, 519, rfl⟩
abbrev main_call9_v0 : Ref sig .tc := ⟨.hbm, 520, rfl⟩
abbrev main_call9_v1 : Ref sig .tc := ⟨.hbm, 521, rfl⟩
abbrev main_v398 : Ref sig .tc := ⟨.hbm, 522, rfl⟩

abbrev nD : Nat := 1
abbrev τ : Topo := Topo.v7x

variable {F : FTy → Type} [FloatOps F]
-- ==== Proof.IdealRegions.lean ====
/-
  The four kernel calls, each at the buffer contents it is entered from: what the body leaves in each output block
  (the third call's second output is never written: its contents are left unnamed), and the body's triple.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.RegionsOwned
public import Idealize.ShloMosaic.Lib.Pipeline.RegionArraysF
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_deconv_mm` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S1x4x4x64x640 .f32 := (Memref.whole cc0_stg2_0 : Memref sig .tc .vmem S1x4x4x64x640 .f32).view
/-- One staging buffer of output window 3, through which its contents are stated (`View.read_writes_of_cover`: the
    choice does not matter). -/
abbrev VO0_3 : View sig .tc .vmem S1x1x2x640 .f32 := (Memref.whole cc0_stg3_0 : Memref sig .tc .vmem S1x1x2x640 .f32).view
/-- Each window's current staging memref at point `t`, spelled as the pipeline passes it (`bodyAt0`), and its wholeness. -/
abbrev ms0_0 (t : Fin cfg0.N) : Memref sig .tc .vmem S1x50x66x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x2560x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x4x64x640 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2x640 .f32 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun0_A (c : Dev nD) (i : grid0.Coords) (arg2 : Memref sig .tc .vmem S1x50x66x640 .f32) (harg2 : arg2.IsWhole) (arg3 : Memref sig .tc .vmem S4x2560x640 .f32) (harg3 : arg3.IsWhole) (arg4 : Memref sig .tc .vmem S1x4x4x64x640 .f32) (harg4 : arg4.IsWhole) (arg5 : Memref sig .tc .vmem S1x1x2x640 .f32) (harg5 : arg5.IsWhole)
    (x0 : Vec F S1x50x66x640 .f32) (x1 : Vec F S4x2560x640 .f32) :
    Σ' (L2 : List (View.Piece (Elt F) S1x4x4x64x640 .f32)), { L3 : List (View.Piece (Elt F) S1x1x2x640 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0_deconv_mm i arg2 harg2 arg3 harg3 arg4 harg4 arg5 harg5) K } := by
  refine ⟨?_, ?_, fun E K => ?run⟩
  case run =>
    simp only [cc0_deconv_mm_eq_skeleton]; unfold cc0_deconv_mm_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

/-- The run's pieces for output 2 tile its block (4 stores of `S1x1x4x64x640`), so they cover it. -/
theorem cover0_A_2 (c : Dev nD) (i : grid0.Coords) (arg2 : Memref sig .tc .vmem S1x50x66x640 .f32) (harg2 : arg2.IsWhole) (arg3 : Memref sig .tc .vmem S4x2560x640 .f32) (harg3 : arg3.IsWhole) (arg4 : Memref sig .tc .vmem S1x4x4x64x640 .f32) (harg4 : arg4.IsWhole) (arg5 : Memref sig .tc .vmem S1x1x2x640 .f32) (harg5 : arg5.IsWhole)
    (x0 : Vec F S1x50x66x640 .f32) (x1 : Vec F S4x2560x640 .f32) (y : S1x4x4x64x640.Idx) :
    ∃ pc ∈ (kernelRun0_A c i arg2 harg2 arg3 harg3 arg4 harg4 arg5 harg5 x0 x1).1, y ∈ pc.1.set :=
  View.cover_of_tiledL (kernelRun0_A c i arg2 harg2 arg3 harg3 arg4 harg4 arg5 harg5 x0 x1).1 S1x1x4x64x640.size (by sl_kernel_rfl) y

/-- What the run leaves in output 2's staging buffer: its pieces read back over junk. -/
def out0_A_2 (c : Dev nD) (i : grid0.Coords) (arg2 : Memref sig .tc .vmem S1x50x66x640 .f32) (harg2 : arg2.IsWhole) (arg3 : Memref sig .tc .vmem S4x2560x640 .f32) (harg3 : arg3.IsWhole) (arg4 : Memref sig .tc .vmem S1x4x4x64x640 .f32) (harg4 : arg4.IsWhole) (arg5 : Memref sig .tc .vmem S1x1x2x640 .f32) (harg5 : arg5.IsWhole)
    (x0 : Vec F S1x50x66x640 .f32) (x1 : Vec F S4x2560x640 .f32) : Vec F S1x4x4x64x640 .f32 :=
  VO0_2.read (Elt F) (VO0_2.writes (Elt F) VO0_2.junk (kernelRun0_A c i arg2 harg2 arg3 harg3 arg4 harg4 arg5 harg5 x0 x1).1)

/-- The run's pieces for output 3 tile its block (1 store of `S1x1x2x640`), so they cover it. -/
theorem cover0_A_3 (c : Dev nD) (i : grid0.Coords) (arg2 : Memref sig .tc .vmem S1x50x66x640 .f32) (harg2 : arg2.IsWhole) (arg3 : Memref sig .tc .vmem S4x2560x640 .f32) (harg3 : arg3.IsWhole) (arg4 : Memref sig .tc .vmem S1x4x4x64x640 .f32) (harg4 : arg4.IsWhole) (arg5 : Memref sig .tc .vmem S1x1x2x640 .f32) (harg5 : arg5.IsWhole)
    (x0 : Vec F S1x50x66x640 .f32) (x1 : Vec F S4x2560x640 .f32) (y : S1x1x2x640.Idx) :
    ∃ pc ∈ (kernelRun0_A c i arg2 harg2 arg3 harg3 arg4 harg4 arg5 harg5 x0 x1).2.1, y ∈ pc.1.set :=
  View.cover_of_tiledL (kernelRun0_A c i arg2 harg2 arg3 harg3 arg4 harg4 arg5 harg5 x0 x1).2.1 S1x1x2x640.size (by sl_kernel_rfl) y

/-- What the run leaves in output 3's staging buffer: its pieces read back over junk. -/
def out0_A_3 (c : Dev nD) (i : grid0.Coords) (arg2 : Memref sig .tc .vmem S1x50x66x640 .f32) (harg2 : arg2.IsWhole) (arg3 : Memref sig .tc .vmem S4x2560x640 .f32) (harg3 : arg3.IsWhole) (arg4 : Memref sig .tc .vmem S1x4x4x64x640 .f32) (harg4 : arg4.IsWhole) (arg5 : Memref sig .tc .vmem S1x1x2x640 .f32) (harg5 : arg5.IsWhole)
    (x0 : Vec F S1x50x66x640 .f32) (x1 : Vec F S4x2560x640 .f32) : Vec F S1x1x2x640 .f32 :=
  VO0_3.read (Elt F) (VO0_3.writes (Elt F) VO0_3.junk (kernelRun0_A c i arg2 harg2 arg3 harg3 arg4 harg4 arg5 harg5 x0 x1).2.1)

/-! ## What the outputs hold after each point -/

/-- What the outputs' staging buffers hold after the body at point `t` (as a tuple, in window order): the run's contents at
    the point's memrefs and input blocks. -/
def outsAt0 (c : Dev nD) (t : Fin cfg0.N) : Vec F S1x4x4x64x640 .f32 × Vec F S1x1x2x640 .f32 :=
  (out0_A_2 c (grid0.coords t) (ms0_0 t) (hs0_0 t) (ms0_1 t) (hs0_1 t) (ms0_2 t) (hs0_2 t) (ms0_3 t) (hs0_3 t) (iblk0 V c 0 t) (iblk0 V c 1 t), out0_A_3 c (grid0.coords t) (ms0_0 t) (hs0_0 t) (ms0_1 t) (hs0_1 t) (ms0_2 t) (hs0_2 t) (ms0_3 t) (hs0_3 t) (iblk0 V c 0 t) (iblk0 V c 1 t))

/-! ## The pipeline's proof data -/

/-- The proof data of pipeline 0 on core `c`: the arrays as the region finds them (`V`); after the body at
    point `t` each input's buffer at its block and the outputs' at `outsAt0`; the invariant the class's
    (`ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2
  Φ _ := Pipeline.ΦA spec0 c
  q _ := fullShare
  owed _ := 0

/-- The proof data's arrays are the region-entry contents, by projecting the definition (`dsimp`): a region record cites
    this for its arrays. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  unfold outsAt0
  unfold out0_A_2 out0_A_3; (try dsimp only)
  iintro ⟨HΦ, Ho, ⟨%d0, H0⟩, ⟨%d1, H1⟩, ⟨%d2, H2⟩, ⟨%d3, H3⟩⟩
  iapply ((kernelRun0_A c (grid0.coords t) _ _ _ _ _ _ _ _ (iblk0 V c 0 t) (iblk0 V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _)
  unfold owns; iexists _; isplitr
  swap; · iexact H3
  ipureintro; exact View.read_writes_of_cover _ _ _ _ _ (cover0_A_3 c _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_norm_silu_conv1` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`):
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`):
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S1x2048x640 .f32 := (Memref.whole cc1_stg4_0 : Memref sig .tc .vmem S1x2048x640 .f32).view
/-- One staging buffer of output window 5, through which its contents are stated (`View.read_writes_of_cover`: the
    choice does not matter). -/
abbrev VO1_5 : View sig .tc .vmem S1x1x2x640 .f32 := (Memref.whole cc1_stg5_0 : Memref sig .tc .vmem S1x1x2x640 .f32).view
/-- Each window's current staging memref at point `t`, spelled as the pipeline passes it (`bodyAt1`), and its wholeness. -/
abbrev ms1_0 (t : Fin cfg1.N) : Memref sig .tc .vmem S1x2048x640 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x12x2x640 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S640x640 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x640 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x640 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x2x640 .f32 := win1_5.stage (cfg1.slots t 5)
abbrev hs1_5 (t : Fin cfg1.N) : (ms1_5 t).IsWhole := hstage1_5 ((cfg1.slots t 5).cast nbuf1_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun1_A (c : Dev nD) (i : grid1.Coords) (arg2 : Memref sig .tc .vmem S1x2048x640 .f32) (harg2 : arg2.IsWhole) (arg3 : Memref sig .tc .vmem S2x12x2x640 .f32) (harg3 : arg3.IsWhole) (arg4 : Memref sig .tc .vmem S640x640 .f32) (harg4 : arg4.IsWhole) (arg5 : Memref sig .tc .vmem S1x640 .f32) (harg5 : arg5.IsWhole) (arg6 : Memref sig .tc .vmem S1x2048x640 .f32) (harg6 : arg6.IsWhole) (arg7 : Memref sig .tc .vmem S1x1x2x640 .f32) (harg7 : arg7.IsWhole)
    (x0 : Vec F S1x2048x640 .f32) (x1 : Vec F S2x12x2x640 .f32) (x2 : Vec F S640x640 .f32) (x3 : Vec F S1x640 .f32) :
    Σ' (L4 : List (View.Piece (Elt F) S1x2048x640 .f32)), { L5 : List (View.Piece (Elt F) S1x1x2x640 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1_norm_silu_conv1 i arg2 harg2 arg3 harg3 arg4 harg4 arg5 harg5 arg6 harg6 arg7 harg7) K } := by
  refine ⟨?_, ?_, fun E K => ?run⟩
  case run =>
    simp only [cc1_norm_silu_conv1_eq_skeleton]; unfold cc1_norm_silu_conv1_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- The run's pieces for output 4 tile its block (1 store of `S1x2048x640`), so they cover it. -/
theorem cover1_A_4 (c : Dev nD) (i : grid1.Coords) (arg2 : Memref sig .tc .vmem S1x2048x640 .f32) (harg2 : arg2.IsWhole) (arg3 : Memref sig .tc .vmem S2x12x2x640 .f32) (harg3 : arg3.IsWhole) (arg4 : Memref sig .tc .vmem S640x640 .f32) (harg4 : arg4.IsWhole) (arg5 : Memref sig .tc .vmem S1x640 .f32) (harg5 : arg5.IsWhole) (arg6 : Memref sig .tc .vmem S1x2048x640 .f32) (harg6 : arg6.IsWhole) (arg7 : Memref sig .tc .vmem S1x1x2x640 .f32) (harg7 : arg7.IsWhole)
    (x0 : Vec F S1x2048x640 .f32) (x1 : Vec F S2x12x2x640 .f32) (x2 : Vec F S640x640 .f32) (x3 : Vec F S1x640 .f32) (y : S1x2048x640.Idx) :
    ∃ pc ∈ (kernelRun1_A c i arg2 harg2 arg3 harg3 arg4 harg4 arg5 harg5 arg6 harg6 arg7 harg7 x0 x1 x2 x3).1, y ∈ pc.1.set :=
  View.cover_of_tiledL (kernelRun1_A c i arg2 harg2 arg3 harg3 arg4 harg4 arg5 harg5 arg6 harg6 arg7 harg7 x0 x1 x2 x3).1 S1x2048x640.size (by sl_kernel_rfl) y

/-- What the run leaves in output 4's staging buffer: its pieces read back over junk. -/
def out1_A_4 (c : Dev nD) (i : grid1.Coords) (arg2 : Memref sig .tc .vmem S1x2048x640 .f32) (harg2 : arg2.IsWhole) (arg3 : Memref sig .tc .vmem S2x12x2x640 .f32) (harg3 : arg3.IsWhole) (arg4 : Memref sig .tc .vmem S640x640 .f32) (harg4 : arg4.IsWhole) (arg5 : Memref sig .tc .vmem S1x640 .f32) (harg5 : arg5.IsWhole) (arg6 : Memref sig .tc .vmem S1x2048x640 .f32) (harg6 : arg6.IsWhole) (arg7 : Memref sig .tc .vmem S1x1x2x640 .f32) (harg7 : arg7.IsWhole)
    (x0 : Vec F S1x2048x640 .f32) (x1 : Vec F S2x12x2x640 .f32) (x2 : Vec F S640x640 .f32) (x3 : Vec F S1x640 .f32) : Vec F S1x2048x640 .f32 :=
  VO1_4.read (Elt F) (VO1_4.writes (Elt F) VO1_4.junk (kernelRun1_A c i arg2 harg2 arg3 harg3 arg4 harg4 arg5 harg5 arg6 harg6 arg7 harg7 x0 x1 x2 x3).1)

/-- The run's pieces for output 5 tile its block (1 store of `S1x1x2x640`), so they cover it. -/
theorem cover1_A_5 (c : Dev nD) (i : grid1.Coords) (arg2 : Memref sig .tc .vmem S1x2048x640 .f32) (harg2 : arg2.IsWhole) (arg3 : Memref sig .tc .vmem S2x12x2x640 .f32) (harg3 : arg3.IsWhole) (arg4 : Memref sig .tc .vmem S640x640 .f32) (harg4 : arg4.IsWhole) (arg5 : Memref sig .tc .vmem S1x640 .f32) (harg5 : arg5.IsWhole) (arg6 : Memref sig .tc .vmem S1x2048x640 .f32) (harg6 : arg6.IsWhole) (arg7 : Memref sig .tc .vmem S1x1x2x640 .f32) (harg7 : arg7.IsWhole)
    (x0 : Vec F S1x2048x640 .f32) (x1 : Vec F S2x12x2x640 .f32) (x2 : Vec F S640x640 .f32) (x3 : Vec F S1x640 .f32) (y : S1x1x2x640.Idx) :
    ∃ pc ∈ (kernelRun1_A c i arg2 harg2 arg3 harg3 arg4 harg4 arg5 harg5 arg6 harg6 arg7 harg7 x0 x1 x2 x3).2.1, y ∈ pc.1.set :=
  View.cover_of_tiledL (kernelRun1_A c i arg2 harg2 arg3 harg3 arg4 harg4 arg5 harg5 arg6 harg6 arg7 harg7 x0 x1 x2 x3).2.1 S1x1x2x640.size (by sl_kernel_rfl) y

/-- What the run leaves in output 5's staging buffer: its pieces read back over junk. -/
def out1_A_5 (c : Dev nD) (i : grid1.Coords) (arg2 : Memref sig .tc .vmem S1x2048x640 .f32) (harg2 : arg2.IsWhole) (arg3 : Memref sig .tc .vmem S2x12x2x640 .f32) (harg3 : arg3.IsWhole) (arg4 : Memref sig .tc .vmem S640x640 .f32) (harg4 : arg4.IsWhole) (arg5 : Memref sig .tc .vmem S1x640 .f32) (harg5 : arg5.IsWhole) (arg6 : Memref sig .tc .vmem S1x2048x640 .f32) (harg6 : arg6.IsWhole) (arg7 : Memref sig .tc .vmem S1x1x2x640 .f32) (harg7 : arg7.IsWhole)
    (x0 : Vec F S1x2048x640 .f32) (x1 : Vec F S2x12x2x640 .f32) (x2 : Vec F S640x640 .f32) (x3 : Vec F S1x640 .f32) : Vec F S1x1x2x640 .f32 :=
  VO1_5.read (Elt F) (VO1_5.writes (Elt F) VO1_5.junk (kernelRun1_A c i arg2 harg2 arg3 harg3 arg4 harg4 arg5 harg5 arg6 harg6 arg7 harg7 x0 x1 x2 x3).2.1)

/-! ## What the outputs hold after each point -/

/-- What the outputs' staging buffers hold after the body at point `t` (as a tuple, in window order): the run's contents at
    the point's memrefs and input blocks. -/
def outsAt1 (c : Dev nD) (t : Fin cfg1.N) : Vec F S1x2048x640 .f32 × Vec F S1x1x2x640 .f32 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t))

/-! ## The pipeline's proof data -/

/-- The proof data of pipeline 1 on core `c`: the arrays as the region finds them (`V`); after the body at
    point `t` each input's buffer at its block and the outputs' at `outsAt1`; the invariant the class's
    (`ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t).1
    | ⟨5, _⟩ => (outsAt1 V c t).2
  Φ _ := Pipeline.ΦA spec1 c
  q _ := fullShare
  owed _ := 0

/-- The proof data's arrays are the region-entry contents, by projecting the definition (`dsimp`): a region record cites
    this for its arrays. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t).1 := by dsimp only [dat1]
theorem after1_5 (c : Dev nD) (t : Fin cfg1.N) : (dat1 V c).after 5 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (`BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outsAt1
  unfold out1_A_4 out1_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ (iblk1 V c 0 t) (iblk1 V c 1 t) (iblk1 V c 2 t) (iblk1 V c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_4 c _ _ _ _ _ _ _ _ _ _ _ _ _ _ _ _ _)
  unfold owns; iexists _; isplitr
  swap; · iexact H5
  ipureintro; exact View.read_writes_of_cover _ _ _ _ _ (cover1_A_5 c _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_norm_silu_conv2` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`):
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`):
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 4, through which its contents are stated (`View.read_writes_of_cover`: the
    choice does not matter). -/
abbrev VO2_4 : View sig .tc .vmem S1x2048x133 .f32 := (Memref.whole cc2_stg4_0 : Memref sig .tc .vmem S1x2048x133 .f32).view
/-- One staging buffer of output window 5, through which its contents are stated (`View.read_writes_of_cover`: the
    choice does not matter). -/
abbrev VO2_5 : View sig .tc .vmem S1x1x2x133 .f32 := (Memref.whole cc2_stg5_0 : Memref sig .tc .vmem S1x1x2x133 .f32).view
/-- Each window's current staging memref at point `t`, spelled as the pipeline passes it (`bodyAt2`), and its wholeness. -/
abbrev ms2_0 (t : Fin cfg2.N) : Memref sig .tc .vmem S1x2048x640 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2x6x2x640 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S640x133 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x133 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048x133 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1x2x133 .f32 := win2_5.stage (cfg2.slots t 5)
abbrev hs2_5 (t : Fin cfg2.N) : (ms2_5 t).IsWhole := hstage2_5 ((cfg2.slots t 5).cast nbuf2_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun2_A (c : Dev nD) (i : grid2.Coords) (arg2 : Memref sig .tc .vmem S1x2048x640 .f32) (harg2 : arg2.IsWhole) (arg3 : Memref sig .tc .vmem S2x6x2x640 .f32) (harg3 : arg3.IsWhole) (arg4 : Memref sig .tc .vmem S640x133 .f32) (harg4 : arg4.IsWhole) (arg5 : Memref sig .tc .vmem S1x133 .f32) (harg5 : arg5.IsWhole) (arg6 : Memref sig .tc .vmem S1x2048x133 .f32) (harg6 : arg6.IsWhole) (arg7 : Memref sig .tc .vmem S1x1x2x133 .f32) (harg7 : arg7.IsWhole)
    (x0 : Vec F S1x2048x640 .f32) (x1 : Vec F S2x6x2x640 .f32) (x2 : Vec F S640x133 .f32) (x3 : Vec F S1x133 .f32) :
    { L4 : List (View.Piece (Elt F) S1x2048x133 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d)) -∗ K ⟨⟩))
          ⊢ wp frame (wpE (defs₀ (F := F)) Variants.none c none) E (cc2_norm_silu_conv2 i arg2 harg2 arg3 harg3 arg4 harg4 arg5 harg5 arg6 harg6 arg7 harg7) K } := by
  refine ⟨?_, fun E K => ?run⟩
  case run =>
    simp only [cc2_norm_silu_conv2_eq_skeleton]; unfold cc2_norm_silu_conv2_skel
    unfold owns
    iintro ⟨⟨%f0, %hf0, H0⟩, ⟨%f1, %hf1, H1⟩, ⟨%f2, %hf2, H2⟩, ⟨%f3, %hf3, H3⟩, ⟨%d4, %f4, -, H4⟩, H5, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexact H5

/-- The run's pieces for output 4 tile its block (1 store of `S1x2048x133`), so they cover it. -/
theorem cover2_A_4 (c : Dev nD) (i : grid2.Coords) (arg2 : Memref sig .tc .vmem S1x2048x640 .f32) (harg2 : arg2.IsWhole) (arg3 : Memref sig .tc .vmem S2x6x2x640 .f32) (harg3 : arg3.IsWhole) (arg4 : Memref sig .tc .vmem S640x133 .f32) (harg4 : arg4.IsWhole) (arg5 : Memref sig .tc .vmem S1x133 .f32) (harg5 : arg5.IsWhole) (arg6 : Memref sig .tc .vmem S1x2048x133 .f32) (harg6 : arg6.IsWhole) (arg7 : Memref sig .tc .vmem S1x1x2x133 .f32) (harg7 : arg7.IsWhole)
    (x0 : Vec F S1x2048x640 .f32) (x1 : Vec F S2x6x2x640 .f32) (x2 : Vec F S640x133 .f32) (x3 : Vec F S1x133 .f32) (y : S1x2048x133.Idx) :
    ∃ pc ∈ (kernelRun2_A c i arg2 harg2 arg3 harg3 arg4 harg4 arg5 harg5 arg6 harg6 arg7 harg7 x0 x1 x2 x3).1, y ∈ pc.1.set :=
  View.cover_of_tiledL (kernelRun2_A c i arg2 harg2 arg3 harg3 arg4 harg4 arg5 harg5 arg6 harg6 arg7 harg7 x0 x1 x2 x3).1 S1x2048x133.size (by sl_kernel_rfl) y

/-- What the run leaves in output 4's staging buffer: its pieces read back over junk. -/
def out2_A_4 (c : Dev nD) (i : grid2.Coords) (arg2 : Memref sig .tc .vmem S1x2048x640 .f32) (harg2 : arg2.IsWhole) (arg3 : Memref sig .tc .vmem S2x6x2x640 .f32) (harg3 : arg3.IsWhole) (arg4 : Memref sig .tc .vmem S640x133 .f32) (harg4 : arg4.IsWhole) (arg5 : Memref sig .tc .vmem S1x133 .f32) (harg5 : arg5.IsWhole) (arg6 : Memref sig .tc .vmem S1x2048x133 .f32) (harg6 : arg6.IsWhole) (arg7 : Memref sig .tc .vmem S1x1x2x133 .f32) (harg7 : arg7.IsWhole)
    (x0 : Vec F S1x2048x640 .f32) (x1 : Vec F S2x6x2x640 .f32) (x2 : Vec F S640x133 .f32) (x3 : Vec F S1x133 .f32) : Vec F S1x2048x133 .f32 :=
  VO2_4.read (Elt F) (VO2_4.writes (Elt F) VO2_4.junk (kernelRun2_A c i arg2 harg2 arg3 harg3 arg4 harg4 arg5 harg5 arg6 harg6 arg7 harg7 x0 x1 x2 x3).1)

/-! ## What the outputs hold after each point -/

/-- What the outputs' staging buffers hold after the body at point `t` (as a tuple, in window order): the run's contents at
    the point's memrefs and input blocks. -/
def outsAt2 (c : Dev nD) (t : Fin cfg2.N) : Vec F S1x2048x133 .f32 :=
  out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) (iblk2 V c 3 t)

/-! ## The pipeline's proof data -/

/-- The proof data of pipeline 2 on core `c`: the arrays as the region finds them (`V`); after the body at
    point `t` each input's buffer at its block and the outputs' at `outsAt2`; the invariant the class's
    (`ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t
    | ⟨5, _⟩ => Pipeline.Dat.unnamed (cfg := cfg2) 5 t
  Φ _ := Pipeline.ΦA spec2 c
  q _ := fullShare
  owed _ := 0

/-- The proof data's arrays are the region-entry contents, by projecting the definition (`dsimp`): a region record cites
    this for its arrays. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- The window whose contents the proof does not name: the one the body leaves unwritten. -/
abbrev fg2 : Fin cfg2.W → Bool := fun w => decide (w = 5)

/-- What the body is called with at point `t` (`BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ X, owns (c : Thread nD τ) (ms2_5 t) fullShare X))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ (∃ X, owns (c : Thread nD τ) (ms2_5 t) fullShare X))

/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  unfold outsAt2
  unfold out2_A_4; (try dsimp only)
  iintro ⟨HΦ, Ho, ⟨%d0, H0⟩, ⟨%d1, H1⟩, ⟨%d2, H2⟩, ⟨%d3, H3⟩, ⟨%d4, H4⟩, H5⟩
  iapply ((kernelRun2_A c (grid2.coords t) _ _ _ _ _ _ _ _ _ _ _ _ (iblk2 V c 0 t) (iblk2 V c 1 t) (iblk2 V c 2 t) (iblk2 V c 3 t)).2 Set.univ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, ⟨%e4, H4⟩, H5⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover2_A_4 c _ _ _ _ _ _ _ _ _ _ _ _ _ _ _ _ _)
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (`triple_restated`). -/
theorem body_obligation2 (c : Dev nD) : BodyObligation (dat2 (F := F) V c) (defs₀ (F := F)) Variants.none () Set.univ fg2 := fun t => by
  rw [bigSep_W2, bigSep_W2, defs₀_row2]
  exact triple_restated (sound_body2 V c t) rfl .rfl fun _ => .rfl

/-! # REGION 3 of @main: custom_call 3, `cc3_heatmap_post` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`):
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S19x96x128 := Rect.unit (s := S19x96x128) ![0, 0, 0] S19x96x128.size inb_S19x96x128_S19x96x128_0_0_0
abbrev r3_1 : Rect S96x96 := Rect.unit (s := S96x96) ![0, 0] S96x96.size inb_S96x96_S96x96_0_0
abbrev r3_2 : Rect S128x128 := Rect.unit (s := S128x128) ![0, 0] S128x128.size inb_S128x128_S128x128_0_0
abbrev r3_3 : Rect S1x19x2 := Rect.unit (s := S1x19x2) ![0, 0, 0] S1x19x2.size inb_S1x19x2_S1x19x2_0_0_0
abbrev r3_4 : Rect S1x19x1 := Rect.unit (s := S1x19x1) ![0, 0, 0] S1x19x1.size inb_S1x19x1_S1x19x1_0_0_0

/-! ## What the body leaves in each output window's buffer -/

/-! ### Values of the body that the stores' payloads, spelt out, would write more than once

    Each is a vector the body binds (often a part call's result), stated over the input windows' blocks and
    numbered on from the skeleton's payload functions (`k3_pay50` …, after `k3_pay49`), so that
    `out3_W` and the values after it name it instead of spelling it out; the comment after each is the printed function's
    name for the value (a count appended where that name is bound again). -/

def k3_pay50 (x0 : Vec F S19x96x128 .f32) (x1 : Vec F S96x96 .f32) (x2 : Vec F S128x128 .f32) : IVec S19x96x1 32 :=
  iota .tc S19x96x1 32 [1] iota_S19x96x1_d1_w32 -- `v4`
def k3_pay51 (x0 : Vec F S19x96x128 .f32) (x1 : Vec F S96x96 .f32) (x2 : Vec F S128x128 .f32) : IVec S19x1x128 32 :=
  iota .tc S19x1x128 32 [2] iota_S19x1x128_d2_w32 -- `v5`
def k3_pay52 (x0 : Vec F S19x96x128 .f32) (x1 : Vec F S96x96 .f32) (x2 : Vec F S128x128 .f32) : FVec F S19x96x128 .f32 :=
  k3_pay3 (View.ld x0 r3_0) -- `v1`
def k3_pay53 (x0 : Vec F S19x96x128 .f32) (x1 : Vec F S96x96 .f32) (x2 : Vec F S128x128 .f32) : FVec F S19x1x1 .f32 :=
  k3_pay4 (View.ld x0 r3_0) -- `v3`
def k3_pay54 (x0 : Vec F S19x96x128 .f32) (x1 : Vec F S96x96 .f32) (x2 : Vec F S128x128 .f32) : IVec S19x1x1 32 :=
  k3_pay6 (View.ld x0 r3_0) -- `v18`
def k3_pay55 (x0 : Vec F S19x96x128 .f32) (x1 : Vec F S96x96 .f32) (x2 : Vec F S128x128 .f32) : IVec S19x1x1 32 :=
  k3_pay7 (View.ld x0 r3_0) -- `v20`
def k3_pay56 (x0 : Vec F S19x96x128 .f32) (x1 : Vec F S96x96 .f32) (x2 : Vec F S128x128 .f32) : FVec F S96x128 .f32 :=
  k3_pay8 (View.ld x0 r3_0) (View.ld x1 r3_1) (View.ld x2 r3_2) -- `v26`
def k3_pay57 (x0 : Vec F S19x96x128 .f32) (x1 : Vec F S96x96 .f32) (x2 : Vec F S128x128 .f32) : FVec F S96x128 .f32 :=
  k3_pay9 (View.ld x0 r3_0) (View.ld x1 r3_1) (View.ld x2 r3_2) -- `v30`
def k3_pay58 (x0 : Vec F S19x96x128 .f32) (x1 : Vec F S96x96 .f32) (x2 : Vec F S128x128 .f32) : FVec F S96x128 .f32 :=
  k3_pay10 (View.ld x0 r3_0) (View.ld x1 r3_1) (View.ld x2 r3_2) -- `v34`
def k3_pay59 (x0 : Vec F S19x96x128 .f32) (x1 : Vec F S96x96 .f32) (x2 : Vec F S128x128 .f32) : FVec F S96x128 .f32 :=
  constant S96x128 .f32 0x00000000#32 -- `cst_34`
def k3_pay60 (x0 : Vec F S19x96x128 .f32) (x1 : Vec F S96x96 .f32) (x2 : Vec F S128x128 .f32) : FVec F S96x128 .f32 :=
  k3_pay12 (View.ld x2 r3_2) (k3_pay11 (View.ld x0 r3_0) (View.ld x1 r3_1)) (constant S96x128 .f32 0x00000000#32) -- `v38`
def k3_pay61 (x0 : Vec F S19x96x128 .f32) (x1 : Vec F S96x96 .f32) (x2 : Vec F S128x128 .f32) : FVec F S96x128 .f32 :=
  k3_pay13 (k3_pay52 x0 x1 x2) (View.ld x1 r3_1) (View.ld x2 r3_2) -- `v42`
def k3_pay62 (x0 : Vec F S19x96x128 .f32) (x1 : Vec F S96x96 .f32) (x2 : Vec F S128x128 .f32) : FVec F S96x128 .f32 :=
  k3_pay14 (k3_pay52 x0 x1 x2) (View.ld x1 r3_1) (View.ld x2 r3_2) -- `v46`
def k3_pay63 (x0 : Vec F S19x96x128 .f32) (x1 : Vec F S96x96 .f32) (x2 : Vec F S128x128 .f32) : FVec F S96x128 .f32 :=
  k3_pay15 (k3_pay52 x0 x1 x2) (View.ld x1 r3_1) (View.ld x2 r3_2) -- `v50`
def k3_pay64 (x0 : Vec F S19x96x128 .f32) (x1 : Vec F S96x96 .f32) (x2 : Vec F S128x128 .f32) : FVec F S96x128 .f32 :=
  k3_pay16 (k3_pay52 x0 x1 x2) (View.ld x1 r3_1) (View.ld x2 r3_2) -- `v54`
def k3_pay65 (x0 : Vec F S19x96x128 .f32) (x1 : Vec F S96x96 .f32) (x2 : Vec F S128x128 .f32) : FVec F S96x128 .f32 :=
  k3_pay17 (k3_pay52 x0 x1 x2) (View.ld x1 r3_1) (View.ld x2 r3_2) -- `v58`
def k3_pay66 (x0 : Vec F S19x96x128 .f32) (x1 : Vec F S96x96 .f32) (x2 : Vec F S128x128 .f32) : FVec F S96x128 .f32 :=
  k3_pay18 (k3_pay52 x0 x1 x2) (View.ld x1 r3_1) (View.ld x2 r3_2) -- `v62`
def k3_pay67 (x0 : Vec F S19x96x128 .f32) (x1 : Vec F S96x96 .f32) (x2 : Vec F S128x128 .f32) : FVec F S96x128 .f32 :=
  k3_pay19 (k3_pay52 x0 x1 x2) (View.ld x1 r3_1) (View.ld x2 r3_2) -- `v66`
def k3_pay68 (x0 : Vec F S19x96x128 .f32) (x1 : Vec F S96x96 .f32) (x2 : Vec F S128x128 .f32) : FVec F S96x128 .f32 :=
  k3_pay20 (k3_pay52 x0 x1 x2) (View.ld x1 r3_1) (View.ld x2 r3_2) -- `v70`
def k3_pay69 (x0 : Vec F S19x96x128 .f32) (x1 : Vec F S96x96 .f32) (x2 : Vec F S128x128 .f32) : FVec F S96x128 .f32 :=
  k3_pay21 (k3_pay52 x0 x1 x2) (View.ld x1 r3_1) (View.ld x2 r3_2) -- `v74`
def k3_pay70 (x0 : Vec F S19x96x128 .f32) (x1 : Vec F S96x96 .f32) (x2 : Vec F S128x128 .f32) : FVec F S96x128 .f32 :=
  k3_pay22 (k3_pay52 x0 x1 x2) (View.ld x1 r3_1) -- `v77`
def k3_pay71 (x0 : Vec F S19x96x128 .f32) (x1 : Vec F S96x96 .f32) (x2 : Vec F S128x128 .f32) : FVec F S19x96x128 .f32 :=
  k3_pay23 (k3_pay52 x0 x1 x2) (View.ld x1 r3_1) (View.ld x2 r3_2) (k3_pay56 x0 x1 x2) (k3_pay57 x0 x1 x2) (k3_pay58 x0 x1 x2) (k3_pay60 x0 x1 x2) (k3_pay61 x0 x1 x2) (k3_pay62 x0 x1 x2) (k3_pay63 x0 x1 x2) (k3_pay64 x0 x1 x2) (k3_pay65 x0 x1 x2) (k3_pay66 x0 x1 x2) (k3_pay67 x0 x1 x2) (k3_pay68 x0 x1 x2) (k3_pay69 x0 x1 x2) (k3_pay70 x0 x1 x2) (k3_pay59 x0 x1 x2) -- `v118`
def k3_pay72 (x0 : Vec F S19x96x128 .f32) (x1 : Vec F S96x96 .f32) (x2 : Vec F S128x128 .f32) : FVec F S19x1x1 .f32 :=
  k3_pay24 (k3_pay52 x0 x1 x2) (View.ld x1 r3_1) (View.ld x2 r3_2) (k3_pay56 x0 x1 x2) (k3_pay57 x0 x1 x2) (k3_pay58 x0 x1 x2) (k3_pay60 x0 x1 x2) (k3_pay61 x0 x1 x2) (k3_pay62 x0 x1 x2) (k3_pay63 x0 x1 x2) (k3_pay64 x0 x1 x2) (k3_pay65 x0 x1 x2) (k3_pay66 x0 x1 x2) (k3_pay67 x0 x1 x2) (k3_pay68 x0 x1 x2) (k3_pay69 x0 x1 x2) (k3_pay70 x0 x1 x2) (k3_pay59 x0 x1 x2) -- `v120`
def k3_pay73 (x0 : Vec F S19x96x128 .f32) (x1 : Vec F S96x96 .f32) (x2 : Vec F S128x128 .f32) : FVec F S19x1x1 .f32 :=
  k3_pay25 (k3_pay52 x0 x1 x2) (View.ld x1 r3_1) (View.ld x2 r3_2) (k3_pay56 x0 x1 x2) (k3_pay57 x0 x1 x2) (k3_pay58 x0 x1 x2) (k3_pay60 x0 x1 x2) (k3_pay61 x0 x1 x2) (k3_pay62 x0 x1 x2) (k3_pay63 x0 x1 x2) (k3_pay64 x0 x1 x2) (k3_pay65 x0 x1 x2) (k3_pay66 x0 x1 x2) (k3_pay67 x0 x1 x2) (k3_pay68 x0 x1 x2) (k3_pay69 x0 x1 x2) (k3_pay70 x0 x1 x2) (k3_pay59 x0 x1 x2) -- `v124`
def k3_pay74 (x0 : Vec F S19x96x128 .f32) (x1 : Vec F S96x96 .f32) (x2 : Vec F S128x128 .f32) : FVec F S19x96x128 .f32 :=
  k3_pay26 (k3_pay53 x0 x1 x2) (k3_pay71 x0 x1 x2) (k3_pay72 x0 x1 x2) (k3_pay73 x0 x1 x2) -- `v137`
def k3_pay75 (x0 : Vec F S19x96x128 .f32) (x1 : Vec F S96x96 .f32) (x2 : Vec F S128x128 .f32) : FVec F S19x1x1 .f32 :=
  k3_pay27 (k3_pay53 x0 x1 x2) (k3_pay50 x0 x1 x2) (k3_pay51 x0 x1 x2) (k3_pay54 x0 x1 x2) (k3_pay55 x0 x1 x2) (k3_pay71 x0 x1 x2) (k3_pay72 x0 x1 x2) (k3_pay73 x0 x1 x2) -- `v160`
def k3_pay76 (x0 : Vec F S19x96x128 .f32) (x1 : Vec F S96x96 .f32) (x2 : Vec F S128x128 .f32) : FVec F S19x1x1 .f32 :=
  k3_pay30 (k3_pay50 x0 x1 x2) (k3_pay51 x0 x1 x2) (k3_pay74 x0 x1 x2) (k3_pay28 (k3_pay54 x0 x1 x2)) (k3_pay29 (k3_pay55 x0 x1 x2)) 0#32 -- `v183`
def k3_pay77 (x0 : Vec F S19x96x128 .f32) (x1 : Vec F S96x96 .f32) (x2 : Vec F S128x128 .f32) : FVec F S19x1x1 .f32 :=
  k3_pay31 (k3_pay50 x0 x1 x2) (k3_pay51 x0 x1 x2) (k3_pay54 x0 x1 x2) (k3_pay55 x0 x1 x2) (k3_pay74 x0 x1 x2) -- `v206`
def k3_pay78 (x0 : Vec F S19x96x128 .f32) (x1 : Vec F S96x96 .f32) (x2 : Vec F S128x128 .f32) : FVec F S19x1x1 .f32 :=
  k3_pay34 (k3_pay50 x0 x1 x2) (k3_pay51 x0 x1 x2) (k3_pay55 x0 x1 x2) (k3_pay74 x0 x1 x2) (k3_pay32 (k3_pay54 x0 x1 x2)) k3_pay33 -- `v229`
def k3_pay79 (x0 : Vec F S19x96x128 .f32) (x1 : Vec F S96x96 .f32) (x2 : Vec F S128x128 .f32) : FVec F S19x1x1 .f32 :=
  k3_pay35 (k3_pay50 x0 x1 x2) (k3_pay51 x0 x1 x2) (k3_pay54 x0 x1 x2) (k3_pay55 x0 x1 x2) (k3_pay74 x0 x1 x2) -- `v252`
def k3_pay80 (x0 : Vec F S19x96x128 .f32) (x1 : Vec F S96x96 .f32) (x2 : Vec F S128x128 .f32) : FVec F S19x1x1 .f32 :=
  k3_pay37 (k3_pay50 x0 x1 x2) (k3_pay51 x0 x1 x2) (k3_pay55 x0 x1 x2) (k3_pay74 x0 x1 x2) (k3_pay36 (k3_pay54 x0 x1 x2)) -- `v275`
def k3_pay81 (x0 : Vec F S19x96x128 .f32) (x1 : Vec F S96x96 .f32) (x2 : Vec F S128x128 .f32) : FVec F S19x1x1 .f32 :=
  k3_pay38 (k3_pay50 x0 x1 x2) (k3_pay51 x0 x1 x2) (k3_pay54 x0 x1 x2) (k3_pay55 x0 x1 x2) (k3_pay74 x0 x1 x2) -- `v298`
def k3_pay82 (x0 : Vec F S19x96x128 .f32) (x1 : Vec F S96x96 .f32) (x2 : Vec F S128x128 .f32) : FVec F S19x1x1 .f32 :=
  k3_pay39 (k3_pay76 x0 x1 x2) (k3_pay77 x0 x1 x2) -- `v301`
def k3_pay83 (x0 : Vec F S19x96x128 .f32) (x1 : Vec F S96x96 .f32) (x2 : Vec F S128x128 .f32) : FVec F S19x1x1 .f32 :=
  k3_pay40 (k3_pay78 x0 x1 x2) (k3_pay79 x0 x1 x2) -- `v302`
def k3_pay84 (x0 : Vec F S19x96x128 .f32) (x1 : Vec F S96x96 .f32) (x2 : Vec F S128x128 .f32) : FVec F S19x1x1 .f32 :=
  k3_pay41 (F := F) -- `v303`

/-- Window 3's staging buffer after the body, from the input windows' blocks: its 1 store as pieces, LAST
    FIRST (`View.canon`; the payloads are the skeleton's and the values stated above). -/
def out3_3 (x0 : Vec F S19x96x128 .f32) (x1 : Vec F S96x96 .f32) (x2 : Vec F S128x128 .f32) : Vec F S1x19x2 .f32 :=
  View.canon [⟨r3_3, k3_pay1 (k3_pay47 (k3_pay54 x0 x1 x2) (k3_pay75 x0 x1 x2) (k3_pay76 x0 x1 x2) (k3_pay77 x0 x1 x2) (k3_pay78 x0 x1 x2) (k3_pay79 x0 x1 x2) (k3_pay80 x0 x1 x2) (k3_pay81 x0 x1 x2) (k3_pay82 x0 x1 x2) (k3_pay83 x0 x1 x2) (k3_pay84 x0 x1 x2)) (k3_pay48 (k3_pay53 x0 x1 x2)) (k3_pay49 (k3_pay53 x0 x1 x2) (k3_pay55 x0 x1 x2) (k3_pay75 x0 x1 x2) (k3_pay76 x0 x1 x2) (k3_pay77 x0 x1 x2) (k3_pay78 x0 x1 x2) (k3_pay79 x0 x1 x2) (k3_pay80 x0 x1 x2) (k3_pay81 x0 x1 x2) (k3_pay82 x0 x1 x2) (k3_pay83 x0 x1 x2) (k3_pay84 x0 x1 x2)) (Scalar.ofBits .f32 0xBF800000#32)⟩]

/-- Its stores tile the buffer (checked by evaluation), so they cover it. -/
theorem cover3_3 (p0 : Vec F S1x19x2 .f32) (y : S1x19x2.Idx) :
    ∃ pc ∈ ([⟨r3_3, p0⟩] : List (View.Piece (Elt F) S1x19x2 .f32)), y ∈ pc.1.set :=
  View.cover_of_tiled [⟨r3_3, p0⟩] S1x19x2.size (by rfl) y

/-- Window 4's staging buffer after the body, from the input windows' blocks: its 1 store as pieces, LAST
    FIRST (`View.canon`; the payloads are the skeleton's and the values stated above). -/
def out3_4 (x0 : Vec F S19x96x128 .f32) (x1 : Vec F S96x96 .f32) (x2 : Vec F S128x128 .f32) : Vec F S1x19x1 .f32 :=
  View.canon [⟨r3_4, k3_pay2 (k3_pay53 x0 x1 x2)⟩]

/-- Its stores tile the buffer (checked by evaluation), so they cover it. -/
theorem cover3_4 (p0 : Vec F S1x19x1 .f32) (y : S1x19x1.Idx) :
    ∃ pc ∈ ([⟨r3_4, p0⟩] : List (View.Piece (Elt F) S1x19x1 .f32)), y ∈ pc.1.set :=
  View.cover_of_tiled [⟨r3_4, p0⟩] S1x19x1.size (by rfl) y

/-! ## The body's triple -/

set_option maxHeartbeats 4050900 in
/-- The kernel body on whole staging memrefs, the inputs' at read contents `xW` and the outputs' at anything, runs to
    the continuation holding the inputs' as they were and each output's at `out3_W` of the inputs': the printed functions
    are their skeletons (`Gen.*_eq_skeleton`), which `sl_exec` runs, through every part call. -/
theorem sound_kernel3 (c : Dev nD) (E : Set ℕ) (i : grid3.Coords) (arg1 : Memref sig .tc .vmem S19x96x128 .f32) (harg1 : arg1.IsWhole) (arg2 : Memref sig .tc .vmem S96x96 .f32) (harg2 : arg2.IsWhole) (arg3 : Memref sig .tc .vmem S128x128 .f32) (harg3 : arg3.IsWhole) (arg4 : Memref sig .tc .vmem S1x19x2 .f32) (harg4 : arg4.IsWhole) (arg5 : Memref sig .tc .vmem S1x19x1 .f32) (harg5 : arg5.IsWhole)
    (x0 : Vec F S19x96x128 .f32) (x1 : Vec F S96x96 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2) ∗ owns (c : Thread nD τ) arg5 fullShare (out3_4 x0 x1 x2)) -∗ K ⟨⟩))
      ⊢ wp frame (wpE (defs₀ (F := F)) Variants.none c none) E (cc3_heatmap_post i arg1 harg1 arg2 harg2 arg3 harg3 arg4 harg4 arg5 harg5) K := by
  simp only [cc3_heatmap_post_eq_skeleton]; unfold cc3_heatmap_post_skel
  simp only [k3_part1_eq_skeleton, k3_part2_eq_skeleton, k3_part3_eq_skeleton, k3_part4_eq_skeleton, k3_part5_eq_skeleton, k3_part6_eq_skeleton, k3_part7_eq_skeleton, k3_part8_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover3_3 _)).trans ?_
    rfl
  iexists _; isplitr
  swap; · iexact H4
  ipureintro
  refine (View.read_writes_eq_canon _ _ _ (cover3_4 _)).trans ?_
  rfl

/-! ## The pipeline's proof data -/

/-- The proof data of pipeline 3 on core `c`: the arrays as the region finds them (`V`); after the body at
    point `t` each input's buffer at its block and each output's at `out3_W` of the input blocks; the invariant
    (`ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
    | ⟨4, _⟩ => out3_4 (iblk3 V c 0 t) (iblk3 V c 1 t) (iblk3 V c 2 t)
  Φ _ := Pipeline.ΦA spec3 c
  q _ := fullShare
  owed _ := 0

/-- The proof data's arrays are the region-entry contents, by projecting the definition (`dsimp`): a region record cites
    this for its arrays. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem after3_4 (c : Dev nD) (t : Fin cfg3.N) : (dat3 V c).after 4 t = out3_4 (iblk3 V c 0 t) (iblk3 V c 1 t) (iblk3 V c 2 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (`BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (`triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.IdealRun.lean ====
/-
  The whole program as a chain of host stretches and kernel calls: the contents at each boundary, and the run.
-/
module

public import proofs.«01_k».proof.Proof.IdealRegions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (`θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (`after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_cst_0, main_v0, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v1]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v44, main_v45, main_v46, main_v47]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v49, main_v50, main_v51]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v53, main_v54, main_v55]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v57, main_v58]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (`withArrays`). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered (`withArrays`). -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2` (region 2's entry). -/
abbrev W7 : Dev nD → Valuation τ sig (Elt F) := fun c => StableHlo.after hostOps2 (W6 m ρ c)
/-- A reference `hostOps2` does not write keeps its contents across it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)
/-- The same read at the TensorCore's references (what region 2's proof data take). -/
abbrev V7 : (c : Dev nD) → (b : Ref sig .tc) → Buf (Elt F) ((c : Thread nD τ).loc b) := fun c b => W7 m ρ c b
/-- At region 2's exit: its arrays at what the pipeline leaves (the inputs as entered, each output's write-backs
    folded: `Dat.arrAt … N`), every other buffer as entered (`withArrays`). -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- A reference that is none of region 2's OUTPUT arrays keeps its entry contents across it: an input window's
    array is never written back (`Dat.arrAt_in`, `A_eq2`); any other buffer is left as is. -/
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn2 a ha)).trans (W7_args m ρ c a ha)
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves (`hF2`) and every other buffer what it
    held at entry (`hrest2`): the two hypotheses of `unscopedBufs_of_arrays`. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After `hostOps3` (region 3's entry). -/
abbrev W9 : Dev nD → Valuation τ sig (Elt F) := fun c => StableHlo.after hostOps3 (W8 m ρ c)
/-- A reference `hostOps3` does not write keeps its contents across it. -/
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
theorem W9_args (c : Dev nD) : ∀ a ∈ argRefs, W9 m ρ c (Proc.devRef .tc a) = m ((c : Thread nD τ).loc a) :=
  fun a ha => (W9_of m ρ c a (hostOps3_args a ha)).trans (W8_args m ρ c a ha)
/-- The same read at the TensorCore's references (what region 3's proof data take). -/
abbrev V9 : (c : Dev nD) → (b : Ref sig .tc) → Buf (Elt F) ((c : Thread nD τ).loc b) := fun c b => W9 m ρ c b
/-- At region 3's exit: its arrays at what the pipeline leaves (the inputs as entered, each output's write-backs
    folded: `Dat.arrAt … N`), every other buffer as entered (`withArrays`). -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- A reference that is none of region 3's OUTPUT arrays keeps its entry contents across it: an input window's
    array is never written back (`Dat.arrAt_in`, `A_eq3`); any other buffer is left as is. -/
theorem W10_of (c : Dev nD) (r : Ref sig .tc) (h : ∀ w : Fin cfg3.W, Pipeline.arrRef spec3 w = r → (cfg3.win w).isOut = false) :
    W10 m ρ c (Proc.devRef .tc r) = W9 m ρ c (Proc.devRef .tc r) := by
  by_cases hw : ∃ w : Fin cfg3.W, Pipeline.arrRef spec3 w = r
  · obtain ⟨w, rfl⟩ := hw
    exact (W10_arr m ρ c w).trans (((dat3 (V9 m ρ) c).arrAt_in w (h w rfl) _).trans (A_eq3 (V9 m ρ) c w))
  · exact W10_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn3 a ha)).trans (W9_args m ρ c a ha)
/-- The same read at the TensorCore's references (region 3's exit contents). -/
abbrev V10 : (c : Dev nD) → (b : Ref sig .tc) → Buf (Elt F) ((c : Thread nD τ).loc b) := fun c b => W10 m ρ c b
/-- At region 3's exit each of its arrays holds what the pipeline leaves (`hF3`) and every other buffer what it
    held at entry (`hrest3`): the two hypotheses of `unscopedBufs_of_arrays`. -/
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- After `hostOps4`. -/
abbrev W11 : Dev nD → Valuation τ sig (Elt F) := fun c => StableHlo.after hostOps4 (W10 m ρ c)
/-- A reference `hostOps4` does not write keeps its contents across it. -/
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h
theorem W11_args (c : Dev nD) : ∀ a ∈ argRefs, W11 m ρ c (Proc.devRef .tc a) = m ((c : Thread nD τ).loc a) :=
  fun a ha => (W11_of m ρ c a (hostOps4_args a ha)).trans (W10_args m ρ c a ha)

/-! ### The arguments end as launched: no host stretch writes one and no region may change one (a region reads it
    through an input window or bypasses it) -/

theorem W11_main_arg0 (c : Dev nD) : W11 m ρ c (Proc.devRef .tc main_arg0) = m ((c : Thread nD τ).loc main_arg0) :=
  W11_args m ρ c main_arg0 (by decide)
theorem W11_main_arg1 (c : Dev nD) : W11 m ρ c (Proc.devRef .tc main_arg1) = m ((c : Thread nD τ).loc main_arg1) :=
  W11_args m ρ c main_arg1 (by decide)
theorem W11_main_arg2 (c : Dev nD) : W11 m ρ c (Proc.devRef .tc main_arg2) = m ((c : Thread nD τ).loc main_arg2) :=
  W11_args m ρ c main_arg2 (by decide)
theorem W11_main_arg3 (c : Dev nD) : W11 m ρ c (Proc.devRef .tc main_arg3) = m ((c : Thread nD τ).loc main_arg3) :=
  W11_args m ρ c main_arg3 (by decide)
theorem W11_main_arg4 (c : Dev nD) : W11 m ρ c (Proc.devRef .tc main_arg4) = m ((c : Thread nD τ).loc main_arg4) :=
  W11_args m ρ c main_arg4 (by decide)
theorem W11_main_arg5 (c : Dev nD) : W11 m ρ c (Proc.devRef .tc main_arg5) = m ((c : Thread nD τ).loc main_arg5) :=
  W11_args m ρ c main_arg5 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-! ### The third call leaves its second output unwritten: what that buffer holds is not known, and nothing reads it -/

/-- The one buffer whose contents are not named after the third call. -/
abbrev U : Finset (Ref sig .tc) := {main_v52_1}
theorem U_unscoped : U ⊆ Finset.univ.filter fun b : Ref sig .tc => ¬ b.isScoped := by decide +kernel
/-- The contents at the third call's exit when its arrays are at `A`. -/
def X8 (c : Dev nD) (A : (w : Fin cfg2.W) → Buf (Elt F) ((cfg2.win w).arr.view.loc (c.tc : Thread nD τ))) : Valuation τ sig (Elt F) :=
  Pipeline.withArrays spec2 c (W7 m ρ c) A
theorem X8_arr (c : Dev nD) (A) (w : Fin cfg2.W) : X8 m ρ c A (Proc.devRef .tc (Pipeline.arrRef spec2 w)) = A w := by
  unfold X8; exact Pipeline.withArrays_arr spec2 launch2.win.arr_inj c _ _ w
theorem X8_rest (c : Dev nD) (A) : ∀ b, b ∉ Finset.univ.image (Pipeline.arrRef spec2) → X8 m ρ c A (Proc.devRef .tc b) = V7 m ρ c b :=
  fun b hb => by
    unfold X8
    exact Pipeline.withArrays_of_ne spec2 c _ _ b fun w e => hb (Finset.mem_image.mpr ⟨w, Finset.mem_univ _, e⟩)
/-- Off the unwritten buffer these are the contents `W8`. -/
theorem X8_eq (c : Dev nD) (A) (hA : ∀ w, fg2 w = false → A w = (dat2 (V7 m ρ) c).arrAt w cfg2.N) :
    ∀ b ∈ Pipeline.ucRefsBut τ sig U, X8 m ρ c A b = W8 m ρ c b := fun b hb => by
  obtain ⟨h1, h2⟩ := Finset.mem_sdiff.mp hb
  obtain ⟨r, -, rfl⟩ := Finset.mem_map.mp (Finset.mem_filter.mp h1).1
  by_cases hw : ∃ w : Fin cfg2.W, Pipeline.arrRef spec2 w = r
  · obtain ⟨w, rfl⟩ := hw
    refine (X8_arr m ρ c A w).trans ((hA w ?_).trans (W8_arr m ρ c w).symm)
    by_contra hf
    have h5 : w = 5 := by simpa [fg2] using hf
    subst h5
    exact h2 (Finset.mem_map.mpr ⟨main_v52_1, Finset.mem_singleton_self _, rfl⟩)
  · have hb' : r ∉ Finset.univ.image (Pipeline.arrRef spec2) := fun h => by
      obtain ⟨w, -, e⟩ := Finset.mem_image.mp h
      exact hw ⟨w, e⟩
    exact (X8_rest m ρ c A r hb').trans (W8_of_ne m ρ c r fun w e => hw ⟨w, e⟩).symm

/-- The windows whose contents are not named, call by call: the third call's second output. -/
def fg : (p : Fin 4) → Fin (Pipeline.pin (pcfgs (F := F)) adm p).W → Bool
  | ⟨0, _⟩ => fun _ => false
  | ⟨1, _⟩ => fun _ => false
  | ⟨2, _⟩ => fg2
  | ⟨3, _⟩ => fun _ => false
/-- The proof data with those windows forgotten. -/
abbrev rdats (p : Fin 4) (c : Dev nD) : Pipeline.RDat τ (Elt F) Unit ℕ (UR sig nD τ) ℕ (Pipeline.pin (pcfgs (F := F)) adm p) c :=
  (pdats m ρ p c).toRForget (fg p)
/-- A call none of whose windows is forgotten, as a segment of the run. -/
def plain {p : Fin 4} (r : Pipeline.RegionSeg (pcfgs (F := F)) adm (pdats m ρ) () defs₀ 𝒱₀ L lv p) (h : fg (F := F) p = fun _ => false) :
    Pipeline.RDat.RegionSeg (pcfgs (F := F)) adm (rdats m ρ) () defs₀ 𝒱₀ L lv p where
  win := r.win
  block_pos := r.block_pos
  stage_whole := r.stage_whole
  K := r.K
  fK := r.fK
  osem := r.osem
  ho := r.ho
  hbody c := by
    show ((pdats m ρ p c).toRForget (fg p)).BodyObligation _ _ _ _
    rw [h]; exact (r.hbody c).toRForget
  hwaits := r.hwaits
  pre := r.pre
  post := r.post
  X := r.X
  Y := r.Y
  Z := r.Z
  hentry := r.hentry
  hin := r.hin
  hout := r.hout
  hexit c := (sep_mono (Entails.of_eq (by
    show ((pdats m ρ p c).toRForget (fg p)).arraysAt _ = _
    rw [h]; exact (pdats m ρ p c).toR_arraysAt_eq _)) .rfl).trans (r.hexit c)

/-- A host stretch after the third call: over every unscoped buffer but the unwritten one. -/
abbrev hsegU (ops : List (HloOp τ sig (Elt F))) (hsub : ops.Forall fun op => op.bufs ⊆ StableHlo.tcRefs τ sig)
    (hU : ops.Forall fun op => Proc.devRef .tc main_v52_1 ∉ op.bufs)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefsBut τ sig U) ops
    (fun op h => Pipeline.sub_ucRefsBut U op ((List.forall_iff_forall_mem.mp hsub) op h) fun b hb => by
      obtain rfl := Finset.mem_singleton.mp hb
      exact (List.forall_iff_forall_mem.mp hU) op h)
    (fun op h => (List.forall_iff_forall_mem.mp hfresh) op h) W R
theorem hostOps3_U : (hostOps3 : List (HloOp τ sig (Elt F))).Forall fun op => Proc.devRef .tc main_v52_1 ∉ op.bufs := by
  refine ⟨?_, ?_, ?_⟩ <;> exact of_decide_eq_true (by chain_rfl)
theorem hostOps4_U : (hostOps4 : List (HloOp τ sig (Elt F))).Forall fun op => Proc.devRef .tc main_v52_1 ∉ op.bufs := by
  refine ⟨?_, ?_⟩ <;> exact of_decide_eq_true (by chain_rfl)
theorem U_rest3 : U ⊆ Pipeline.restRefs sig (Pipeline.pin (pcfgs (F := F)) adm 3).spec := by
  show U ⊆ Pipeline.restRefs sig spec3
  decide +kernel

/-- The last thread state without the `owes` (the kit's chain ends at it BESIDE the core owing nothing): every unscoped
    buffer at the last boundary's contents `W11`, the generator register at some state. -/
abbrev Tₙ (c : Dev nD) : sProp 𝕄 := iprop(StableHlo.held (c : Thread nD τ) (Pipeline.ucRefsBut τ sig U) (W11 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RDat.RegionSeg (pcfgs (F := F)) adm (rdats m ρ) () defs₀ 𝒱₀ L lv 2 where
  win := launch2.win.to₀
  block_pos := launch2.block_pos
  stage_whole := launch2.stage_whole
  K := PEmpty
  osem k := k.elim
  ho := Pipeline.OwnSemFacts.none _
  hbody c := Pipeline.BodyObligation.toRForget _ (body_obligation2 (V7 m ρ) c)
  hwaits := Pipeline.RDat.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefsBut τ sig U) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    show _ ⊢ |={Set.univ}=> iprop((pdats m ρ 2 c).arrays ((pdats m ρ 2 c).arrAt · 0) ∗ Pipeline.prefHeld (pcfgs (F := F) 2).pre c (fun _ => fullShare) (adm (F := F) 2).1
        ∗ (pdats m ρ 2 c).owesAt () 0 ∗ _ ∗ _)
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    show iprop(((dat2 (V7 m ρ) c).toRForget fg2).arraysAt cfg2.N ∗ (dat2 (V7 m ρ) c).owesAt () (Fin.last cfg2.N) ∗ _ ∗ _) ⊢ _
    iintro ⟨Ha, HO, HY, Hrest⟩
    ihave Ha := ((dat2 (V7 m ρ) c).arraysAt_forget fg2 cfg2.N) $$ Ha
    icases Ha with ⟨%A, %hA, Ha⟩
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (fun b => X8 m ρ c A b) A (fun w => (X8_arr m ρ c A w).symm) (X8_rest m ρ c A)
    rw [Pipeline.unscopedBufs_sdiff U U_unscoped, Pipeline.unscopedBufsBut_held, StableHlo.held_congr _ (X8_eq m ρ c A hA)] at hjoin
    ihave H := hjoin $$ [Ha Hrest]
    · isplitl [Ha]; · iexact Ha
      iexact Hrest
    icases H with ⟨-, Hh⟩
    imodintro
    isplitl [Hh]; · iexact Hh
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefsBut τ sig U) (W9 m ρ c) ∗ R c)
  post c := iprop(StableHlo.held (c : Thread nD τ) (Pipeline.ucRefsBut τ sig U) (W10 m ρ c) ∗ R c)
  X c := iprop(∃ r, prngReg c r)
  Y c := iprop(∃ r, prngReg c r)
  Z c := bigSep (Pipeline.restRefs sig spec3 \ U) fun b => (((c.tc : Thread nD τ).loc b) ↦{fullShare} V9 m ρ c b : sProp 𝕄)
  hentry c := by
    rw [Pipeline.ownSems0_none]
    have hsplit := Pipeline.arrays_of_unscopedBufsBut (p := 3) (pcfgs (F := F)) adm (pdats m ρ) launch3.win launch3.arr_whole U U_rest3 c
      ((pdats m ρ 3 c).share_full fun _ => rfl) (V9 m ρ c) (A_eq3 (V9 m ρ) c)
    rw [Pipeline.unscopedBufsBut_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufsBut_of_arrays (p := 3) (pcfgs (F := F)) adm (pdats m ρ)
      launch3.win launch3.arr_whole U U_rest3 c ((pdats m ρ 3 c).share_full fun _ => rfl)
      (V9 m ρ c) (V10 m ρ c) ((pdats m ρ 3 c).arrAt · cfg3.N) (hF3 m ρ c) (hrest3 m ρ c)
    rw [Pipeline.unscopedBufsBut_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order: a host segment per stretch from its boundary's contents, a region per pallas_call. -/
abbrev segs : List (Pipeline.RDat.Seg (pcfgs (F := F)) adm (rdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (plain m ρ (reg0 m ρ) rfl),
    .host (hseg hostOps1 hostOps1_sub hostOps1_fresh (W4 m ρ)),
    .region (plain m ρ (reg1 m ρ) rfl),
    .host (hseg hostOps2 hostOps2_sub hostOps2_fresh (W6 m ρ)),
    .region (reg2 m ρ),
    .host (hsegU hostOps3 hostOps3_sub hostOps3_U hostOps3_fresh (W8 m ρ)),
    .region (plain m ρ (reg3 m ρ) rfl),
    .host (hsegU hostOps4 hostOps4_sub hostOps4_U hostOps4_fresh (W10 m ρ)) ]
/-- @main IS the run of the segments: `Gen.main_chain`, then the segments' run against that chain by the kernel's
    definitional check (`chain_rfl`). -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with the counters at zero every fair execution ends, nothing faulting, with every unscoped
    buffer but the unwritten one at the last boundary's contents, and every counter at zero. -/
theorem ends : θ_run defs (onTc (τ := τ) (main (F := F))) ⟨m, fun _ => 0, ρ⟩ (fun r =>
      (∀ c : Dev nD, ∀ b ∈ Pipeline.ucRefsBut τ sig U, r.2.mem (((c : Thread nD τ)).1, b) = W11 m ρ c b)
      ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.RDat.Seg.post, hsegU, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefsBut τ sig U, s.mem (((c : Thread nD τ)).1, b) = W11 m ρ c b)
    (hfin := fun c s' => by
      iintro ⟨⟨Hh, -⟩, HSI⟩
      unfold StableHlo.held
      imodintro
      iapply (pointsTo_read_all (Pipeline.ucRefsBut τ sig U) (fun b => (((c : Thread nD τ)).1, b)) (W11 m ρ c) s')
      isplitl [Hh] <;> iassumption)
    (hQ := fun s h hz => ⟨h, funext fun g => hz g (.inr (no_unscoped g.2))⟩)

/-- An unscoped reference other than the unwritten one is among those whose contents are named. -/
theorem mem_but (b : Ref sig .tc) (h : ¬ (Proc.devRef .tc b : DevRef τ sig).isScoped) (h' : b ∉ U) :
    Proc.devRef .tc b ∈ Pipeline.ucRefsBut τ sig U := Pipeline.mem_ucRefsBut U b h h'
/-- The argument arrays end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c _ (mem_but main_arg0 (by decide) (by decide))).trans (W11_main_arg0 m ρ c),
       (h.1 c _ (mem_but main_arg1 (by decide) (by decide))).trans (W11_main_arg1 m ρ c),
       (h.1 c _ (mem_but main_arg2 (by decide) (by decide))).trans (W11_main_arg2 m ρ c),
       (h.1 c _ (mem_but main_arg3 (by decide) (by decide))).trans (W11_main_arg3 m ρ c),
       (h.1 c _ (mem_but main_arg4 (by decide) (by decide))).trans (W11_main_arg4 m ρ c),
       (h.1 c _ (mem_but main_arg5 (by decide) (by decide))).trans (W11_main_arg5 m ρ c)⟩,
    h.2⟩) (ends m ρ)

end Cert.KernelIdeal.Gen

end
-- ==== Proof.Frames.lean ====
/- The claims that need no value: each program runs, leaves its arguments as they were and every semaphore counter at
   zero, and the one named constant has the value its table gives it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.IdealRun
public import proofs.«01_k».proof.Proof.KernRun

@[expose] public section

noncomputable section

namespace Cert.Proof
open Idealize.ShloMosaic Idealize.SL.Sem

/-- The kernel runs at the machine's floats and leaves its arguments. -/
theorem frame_p : Cert.quiescent_Kernel := fun m ρ _ => Cert.Kernel.Gen.frame m ρ

/-- The idealized kernel runs at the extended reals and leaves its arguments. -/
theorem frame_pi : Cert.quiescent_KernelIdeal := fun m ρ _ => Cert.KernelIdeal.Gen.frame m ρ

/-- The reference runs and leaves its arguments; it declares no semaphore. -/
theorem frame_r (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The reference's frame as the certificate states it. -/
theorem frame_ri : Cert.quiescent_ReferenceIdeal := fun m ρ _ => frame_r m ρ

/-- The named constant is exactly one over the 12288 pixels of a channel. -/
theorem preserves : Cert.preserves_Kernel_KernelIdeal :=
  IdealRules.named_const.statement _ _ _ _ _ rfl

end Cert.Proof

end

end
-- ==== Proof.Reg0.lean ====
/- What the transposed-convolution call leaves in its two arrays, as sums over the entry contents of its two operands. -/
module

public import proofs.«01_k».proof.Proof.IdealRun
public import Idealize.ShloMosaic.Lib.Pointwise
public import Idealize.ShloMosaic.Lib.Pipeline.ValueKit

@[expose] public section

noncomputable section

namespace Cert.KernelIdeal.Gen
open Idealize.ShloMosaic Idealize.ShloMosaic.TcCoe Idealize.ShloMosaic.Tactic Idealize.SL.Sem

set_option maxRecDepth 16384

/-- The phase `p` product at output pixel `(y, x)`: the four taps of the padded input against the phase's weights. -/
def phase (X : S2x50x66x640.Idx → EReal) (Wk : S4x2560x640.Idx → EReal) (b : Fin 2) (p : Fin 4) (y : Fin 48) (x : Fin 64) (o : Fin 640) : EReal :=
  ∑ k : Fin 2560, X (ix4 b ⟨y.val + p.val / 2 + k.val / 640 / 2, by omega⟩ ⟨x.val + p.val % 2 + k.val / 640 % 2, by omega⟩ ⟨k.val % 640, by omega⟩) * Wk (ix3 p k o)

theorem off1_00 (i : grid0.Coords) : k0_off1 i 0#32 0#32 = ![0, 4 * (i 1).val, 0, 0] := k0_off1_eq i 0 0
theorem off1_01 (i : grid0.Coords) : k0_off1 i 0#32 1#32 = ![0, 4 * (i 1).val + 1, 0, 0] := k0_off1_eq i 0 1
theorem off1_10 (i : grid0.Coords) : k0_off1 i 1#32 0#32 = ![0, 4 * (i 1).val + 1, 0, 0] := k0_off1_eq i 1 0
theorem off1_11 (i : grid0.Coords) : k0_off1 i 1#32 1#32 = ![0, 4 * (i 1).val + 2, 0, 0] := k0_off1_eq i 1 1
theorem off2_00 (i : grid0.Coords) : k0_off2 i 0#32 0#32 = ![0, 4 * (i 1).val, 1, 0] := k0_off2_eq i 0 0
theorem off2_01 (i : grid0.Coords) : k0_off2 i 0#32 1#32 = ![0, 4 * (i 1).val + 1, 1, 0] := k0_off2_eq i 0 1
theorem off2_10 (i : grid0.Coords) : k0_off2 i 1#32 0#32 = ![0, 4 * (i 1).val + 1, 1, 0] := k0_off2_eq i 1 0
theorem off2_11 (i : grid0.Coords) : k0_off2 i 1#32 1#32 = ![0, 4 * (i 1).val + 2, 1, 0] := k0_off2_eq i 1 1
theorem off3_00 (i : grid0.Coords) : k0_off3 i 0#32 0#32 = ![0, 4 * (i 1).val, 2, 0] := k0_off3_eq i 0 0
theorem off3_01 (i : grid0.Coords) : k0_off3 i 0#32 1#32 = ![0, 4 * (i 1).val + 1, 2, 0] := k0_off3_eq i 0 1
theorem off3_10 (i : grid0.Coords) : k0_off3 i 1#32 0#32 = ![0, 4 * (i 1).val + 1, 2, 0] := k0_off3_eq i 1 0
theorem off3_11 (i : grid0.Coords) : k0_off3 i 1#32 1#32 = ![0, 4 * (i 1).val + 2, 2, 0] := k0_off3_eq i 1 1

/-- Where the grid point `t` stands: image `t / 12`, row tile `t % 12`. -/
theorem coords0 : ∀ t : Fin cfg0.N, ((grid0.coords t) 1).val = t.val % 12 := by decide +kernel
theorem idx0_0 : ∀ t : Fin cfg0.N, win0_0.index t = ![t.val / 12, 0, 0, 0] := by decide +kernel
theorem idx0_1 : ∀ t : Fin cfg0.N, win0_1.index t = ![0, 0, 0] := by decide +kernel
theorem idx0_2 : ∀ t : Fin cfg0.N, win0_2.index t = ![t.val / 12, 0, t.val % 12, 0, 0] := by decide +kernel
theorem idx0_3 : ∀ t : Fin cfg0.N, win0_3.index t = ![t.val / 12, t.val % 12, 0, 0] := by decide +kernel

variable (V : (c : Dev nD) → (b : Ref sig .tc) → Buf (Elt Ideal) ((c : Thread nD τ).loc b))

theorem lt0 (t : Fin cfg0.N) : t.val / 12 < 2 := by have h : t.val < 24 := t.isLt; omega

/-- The input block at point `t` is image `t / 12` of the padded input. -/
theorem read0_0 (c : Dev nD) (t : Fin cfg0.N) (a : Fin 1) (r : Fin 50) (s : Fin 66) (i : Fin 640) :
    iblk0 V c 0 t (ix4 a r s i) = (V c main_v1 : S2x50x66x640.Idx → EReal) (ix4 ⟨t.val / 12, lt0 t⟩ r s i) := by
  blk_ext [iblk0, idx0_0 t]

/-- The weight block at every point is the whole array. -/
theorem read0_1 (c : Dev nD) (t : Fin cfg0.N) (p : Fin 4) (k : Fin 2560) (o : Fin 640) :
    iblk0 V c 1 t (ix3 p k o) = (V c main_v42 : S4x2560x640.Idx → EReal) (ix3 p k o) := by
  blk_ext [iblk0, idx0_1 t]

/-- The output block at point `t` lies at image `t / 12`, rows `4 * (t % 12)` on. -/
theorem emb0_2 (t : Fin cfg0.N) (y : ((cfg0.win 2).xblock (cfg0.grid.coords t)).Idx) :
    ((View.whole main_v43_0).slice (win0_2.rect t)).emb y
      = (ix5 ⟨t.val / 12, lt0 t⟩ ⟨(y 1).val, (y 1).isLt⟩ ⟨4 * (t.val % 12) + (y 2).val, by have h : (y 2).val < 4 := (y 2).isLt; omega⟩ ⟨(y 3).val, (y 3).isLt⟩ ⟨(y 4).val, (y 4).isLt⟩ : S2x4x48x64x640.Idx) := by
  blk_ext [idx0_2 t]

/-- The statistics block at point `t` is row tile `t % 12` of image `t / 12`. -/
theorem emb0_3 (t : Fin cfg0.N) (y : ((cfg0.win 3).xblock (cfg0.grid.coords t)).Idx) :
    ((View.whole main_v43_1).slice (win0_3.rect t)).emb y
      = (ix4 ⟨t.val / 12, lt0 t⟩ ⟨t.val % 12, by omega⟩ ⟨(y 2).val, (y 2).isLt⟩ ⟨(y 3).val, (y 3).isLt⟩ : S2x12x2x640.Idx) := by
  blk_ext [idx0_3 t]

theorem phase_congr {X : S2x50x66x640.Idx → EReal} {Wk : S4x2560x640.Idx → EReal} {b b' : Fin 2} {p p' : Fin 4} {y y' : Fin 48} {x x' : Fin 64} {o o' : Fin 640}
    (hb : b.val = b'.val) (hp : p.val = p'.val) (hy : y.val = y'.val) (hx : x.val = x'.val) (ho : o.val = o'.val) : phase X Wk b p y x o = phase X Wk b' p' y' x' o' := by
  obtain rfl := Fin.ext hb; obtain rfl := Fin.ext hp; obtain rfl := Fin.ext hy; obtain rfl := Fin.ext hx; obtain rfl := Fin.ext ho; rfl

theorem ix4_congr {n0 n1 n2 n3 : ℕ} {a a' : Fin n0} {b b' : Fin n1} {c c' : Fin n2} {d d' : Fin n3}
    (ha : a.val = a'.val) (hb : b.val = b'.val) (hc : c.val = c'.val) (hd : d.val = d'.val) : ix4 a b c d = ix4 a' b' c' d' := by
  obtain rfl := Fin.ext ha; obtain rfl := Fin.ext hb; obtain rfl := Fin.ext hc; obtain rfl := Fin.ext hd; rfl

/-- A window of four rows and 64 columns of image `b`, its corner at row `Y + r`, column `s`. -/
def tap (X : S2x50x66x640.Idx → EReal) (b : Fin 2) (Y r s : ℕ) (hr : Y + r + 4 ≤ 50) (hs : s + 64 ≤ 66) : S1x4x64x640.Idx → EReal :=
  fun j => X (ix4 b ⟨Y + r + (j 1).val, by have h : (j 1).val < 4 := (j 1).isLt; omega⟩ ⟨s + (j 2).val, by have h : (j 2).val < 64 := (j 2).isLt; omega⟩ ⟨(j 3).val, (j 3).isLt⟩)

/-- The weights of phase `p`. -/
def wt (Wk : S4x2560x640.Idx → EReal) (p : Fin 4) : S1x2560x640.Idx → EReal :=
  fun j => Wk (ix3 p ⟨(j 1).val, (j 1).isLt⟩ ⟨(j 2).val, (j 2).isLt⟩)

/-- The phase `p` products over four rows from row `Y` on, pixels flattened. -/
def tile (X : S2x50x66x640.Idx → EReal) (Wk : S4x2560x640.Idx → EReal) (b : Fin 2) (p : Fin 4) (Y : ℕ) (hY : Y + 4 ≤ 48) : S256x640.Idx → EReal :=
  fun j => phase X Wk b p ⟨Y + (j 0).val / 64, by have h : (j 0).val < 256 := (j 0).isLt; omega⟩ ⟨(j 0).val % 64, by omega⟩ ⟨(j 1).val, (j 1).isLt⟩

/-- The product of the four concatenated taps with a phase's weights is the phase's tile. -/
theorem pay4_tile (X : S2x50x66x640.Idx → EReal) (Wk : S4x2560x640.Idx → EReal) (b : Fin 2) (p : Fin 4) (Y : ℕ) (hY : Y + 4 ≤ 48) :
    k0_pay4 (F := Ideal) (tap X b Y (p.val / 2) (p.val % 2) (by omega) (by omega)) (tap X b Y (p.val / 2) (p.val % 2 + 1) (by omega) (by omega))
      (tap X b Y (p.val / 2 + 1) (p.val % 2) (by omega) (by omega)) (tap X b Y (p.val / 2 + 1) (p.val % 2 + 1) (by omega) (by omega)) (wt Wk p) = tile X Wk b p Y hY := by
  funext j
  rw [eq_ix2 j]
  generalize j 0 = r
  generalize j 1 = o
  have hr : r.val < 256 := r.isLt
  unfold tile phase
  pointwise [k0_pay4, tap, wt]
  refine Finset.sum_congr rfl fun k _ => ?_
  congr 1
  have hk : k.val < 2560 := k.isLt
  split_ifs with h1 h2 h3
  all_goals refine congrArg X (ix4_congr rfl ?_ ?_ ?_)
  all_goals simp only
  all_goals omega

abbrev ldX (c : Dev nD) (t : Fin cfg0.N) (off : Fin 4 → ℕ) (h : ∀ a : Fin ((cfg0.win 0).xblock (cfg0.grid.coords t)).rank, off a + (![1, 4, 64, 640] : Fin 4 → ℕ) a ≤ ((cfg0.win 0).xblock (cfg0.grid.coords t)).size a) : S1x4x64x640.Idx → EReal :=
  View.ld (iblk0 V c 0 t) (Rect.unit off ![1, 4, 64, 640] h)

theorem ld_tap (c : Dev nD) (t : Fin cfg0.N) (off : Fin 4 → ℕ) (h) (r s : ℕ) (hr) (hs) (ho : off = ![0, 4 * (t.val % 12) + r, s, 0]) :
    ldX V c t off h = tap (V c main_v1) ⟨t.val / 12, lt0 t⟩ (4 * (t.val % 12)) r s hr hs := by
  subst ho
  unfold ldX
  funext j
  rw [eq_ix4 j]
  pointwise [read0_0, tap]

theorem ld_wt (c : Dev nD) (t : Fin cfg0.N) (p : Fin 4) (off : Fin 3 → ℕ) (h) (ho : off = ![p.val, 0, 0]) :
    View.ld (iblk0 V c 1 t) (Rect.unit off ![1, 2560, 640] h) = wt (V c main_v42) p := by
  subst ho
  funext j
  rw [eq_ix3 j]
  pointwise [read0_1, wt]

theorem ld1_00 (c : Dev nD) (t : Fin cfg0.N) (h) : ldX V c t (k0_off1 (grid0.coords t) 0#32 0#32) h = tap (V c main_v1) ⟨t.val / 12, lt0 t⟩ (4 * (t.val % 12)) 0 0 (by omega) (by omega) :=
  ld_tap V c t _ h _ _ _ _ (by rw [off1_00, coords0]; rfl)
theorem ld1_01 (c : Dev nD) (t : Fin cfg0.N) (h) : ldX V c t (k0_off1 (grid0.coords t) 0#32 1#32) h = tap (V c main_v1) ⟨t.val / 12, lt0 t⟩ (4 * (t.val % 12)) 1 0 (by omega) (by omega) :=
  ld_tap V c t _ h _ _ _ _ (by rw [off1_01, coords0])
theorem ld1_10 (c : Dev nD) (t : Fin cfg0.N) (h) : ldX V c t (k0_off1 (grid0.coords t) 1#32 0#32) h = tap (V c main_v1) ⟨t.val / 12, lt0 t⟩ (4 * (t.val % 12)) 1 0 (by omega) (by omega) :=
  ld_tap V c t _ h _ _ _ _ (by rw [off1_10, coords0])
theorem ld1_11 (c : Dev nD) (t : Fin cfg0.N) (h) : ldX V c t (k0_off1 (grid0.coords t) 1#32 1#32) h = tap (V c main_v1) ⟨t.val / 12, lt0 t⟩ (4 * (t.val % 12)) 2 0 (by omega) (by omega) :=
  ld_tap V c t _ h _ _ _ _ (by rw [off1_11, coords0])
theorem ld2_00 (c : Dev nD) (t : Fin cfg0.N) (h) : ldX V c t (k0_off2 (grid0.coords t) 0#32 0#32) h = tap (V c main_v1) ⟨t.val / 12, lt0 t⟩ (4 * (t.val % 12)) 0 1 (by omega) (by omega) :=
  ld_tap V c t _ h _ _ _ _ (by rw [off2_00, coords0]; rfl)
theorem ld2_01 (c : Dev nD) (t : Fin cfg0.N) (h) : ldX V c t (k0_off2 (grid0.coords t) 0#32 1#32) h = tap (V c main_v1) ⟨t.val / 12, lt0 t⟩ (4 * (t.val % 12)) 1 1 (by omega) (by omega) :=
  ld_tap V c t _ h _ _ _ _ (by rw [off2_01, coords0])
theorem ld2_10 (c : Dev nD) (t : Fin cfg0.N) (h) : ldX V c t (k0_off2 (grid0.coords t) 1#32 0#32) h = tap (V c main_v1) ⟨t.val / 12, lt0 t⟩ (4 * (t.val % 12)) 1 1 (by omega) (by omega) :=
  ld_tap V c t _ h _ _ _ _ (by rw [off2_10, coords0])
theorem ld2_11 (c : Dev nD) (t : Fin cfg0.N) (h) : ldX V c t (k0_off2 (grid0.coords t) 1#32 1#32) h = tap (V c main_v1) ⟨t.val / 12, lt0 t⟩ (4 * (t.val % 12)) 2 1 (by omega) (by omega) :=
  ld_tap V c t _ h _ _ _ _ (by rw [off2_11, coords0])
theorem ld3_00 (c : Dev nD) (t : Fin cfg0.N) (h) : ldX V c t (k0_off3 (grid0.coords t) 0#32 0#32) h = tap (V c main_v1) ⟨t.val / 12, lt0 t⟩ (4 * (t.val % 12)) 0 2 (by omega) (by omega) :=
  ld_tap V c t _ h _ _ _ _ (by rw [off3_00, coords0]; rfl)
theorem ld3_01 (c : Dev nD) (t : Fin cfg0.N) (h) : ldX V c t (k0_off3 (grid0.coords t) 0#32 1#32) h = tap (V c main_v1) ⟨t.val / 12, lt0 t⟩ (4 * (t.val % 12)) 1 2 (by omega) (by omega) :=
  ld_tap V c t _ h _ _ _ _ (by rw [off3_01, coords0])
theorem ld3_10 (c : Dev nD) (t : Fin cfg0.N) (h) : ldX V c t (k0_off3 (grid0.coords t) 1#32 0#32) h = tap (V c main_v1) ⟨t.val / 12, lt0 t⟩ (4 * (t.val % 12)) 1 2 (by omega) (by omega) :=
  ld_tap V c t _ h _ _ _ _ (by rw [off3_10, coords0])
theorem ld3_11 (c : Dev nD) (t : Fin cfg0.N) (h) : ldX V c t (k0_off3 (grid0.coords t) 1#32 1#32) h = tap (V c main_v1) ⟨t.val / 12, lt0 t⟩ (4 * (t.val % 12)) 2 2 (by omega) (by omega) :=
  ld_tap V c t _ h _ _ _ _ (by rw [off3_11, coords0])
theorem ldW_0 (c : Dev nD) (t : Fin cfg0.N) (h) : View.ld (iblk0 V c 1 t) (Rect.unit ![0, 0, 0] ![1, 2560, 640] h) = wt (V c main_v42) 0 := ld_wt V c t 0 _ h rfl
theorem ldW_1 (c : Dev nD) (t : Fin cfg0.N) (h) : View.ld (iblk0 V c 1 t) (Rect.unit ![1, 0, 0] ![1, 2560, 640] h) = wt (V c main_v42) 1 := ld_wt V c t 1 _ h rfl
theorem ldW_2 (c : Dev nD) (t : Fin cfg0.N) (h) : View.ld (iblk0 V c 1 t) (Rect.unit ![2, 0, 0] ![1, 2560, 640] h) = wt (V c main_v42) 2 := ld_wt V c t 2 _ h rfl
theorem ldW_3 (c : Dev nD) (t : Fin cfg0.N) (h) : View.ld (iblk0 V c 1 t) (Rect.unit ![3, 0, 0] ![1, 2560, 640] h) = wt (V c main_v42) 3 := ld_wt V c t 3 _ h rfl
theorem pay4_0 (X : S2x50x66x640.Idx → EReal) (Wk : S4x2560x640.Idx → EReal) (b : Fin 2) (Y : ℕ) (hY : Y + 4 ≤ 48) (h0 h1 h2 h3 h4 h5 h6 h7) :
    k0_pay4 (F := Ideal) (tap X b Y 0 0 h0 h1) (tap X b Y 0 1 h2 h3) (tap X b Y 1 0 h4 h5) (tap X b Y 1 1 h6 h7) (wt Wk 0) = tile X Wk b 0 Y hY :=
  pay4_tile X Wk b 0 Y hY
theorem pay4_1 (X : S2x50x66x640.Idx → EReal) (Wk : S4x2560x640.Idx → EReal) (b : Fin 2) (Y : ℕ) (hY : Y + 4 ≤ 48) (h0 h1 h2 h3 h4 h5 h6 h7) :
    k0_pay4 (F := Ideal) (tap X b Y 0 1 h0 h1) (tap X b Y 0 2 h2 h3) (tap X b Y 1 1 h4 h5) (tap X b Y 1 2 h6 h7) (wt Wk 1) = tile X Wk b 1 Y hY :=
  pay4_tile X Wk b 1 Y hY
theorem pay4_2 (X : S2x50x66x640.Idx → EReal) (Wk : S4x2560x640.Idx → EReal) (b : Fin 2) (Y : ℕ) (hY : Y + 4 ≤ 48) (h0 h1 h2 h3 h4 h5 h6 h7) :
    k0_pay4 (F := Ideal) (tap X b Y 1 0 h0 h1) (tap X b Y 1 1 h2 h3) (tap X b Y 2 0 h4 h5) (tap X b Y 2 1 h6 h7) (wt Wk 2) = tile X Wk b 2 Y hY :=
  pay4_tile X Wk b 2 Y hY
theorem pay4_3 (X : S2x50x66x640.Idx → EReal) (Wk : S4x2560x640.Idx → EReal) (b : Fin 2) (Y : ℕ) (hY : Y + 4 ≤ 48) (h0 h1 h2 h3 h4 h5 h6 h7) :
    k0_pay4 (F := Ideal) (tap X b Y 1 1 h0 h1) (tap X b Y 1 2 h2 h3) (tap X b Y 2 1 h4 h5) (tap X b Y 2 2 h6 h7) (wt Wk 3) = tile X Wk b 3 Y hY :=
  pay4_tile X Wk b 3 Y hY

theorem pay10_9 {F : FTy → Type} [FloatOps F] (a b c d : Vec F S1x4x64x640 .f32) (w) : k0_pay10 (k0_pay9 a b c d) w = k0_pay4 a b c d w := rfl
theorem pay17_14 {F : FTy → Type} [FloatOps F] (a b c d : Vec F S1x4x64x640 .f32) (w) : k0_pay17 (k0_pay14 a) (k0_pay15 b) (k0_pay16 c) d w = k0_pay4 a b c d w := rfl
theorem pay1_21 {F : FTy → Type} [FloatOps F] (a b c d : Vec F S1x4x64x640 .f32) (w) : k0_pay1 (k0_pay21 a) (k0_pay22 b) c d w = k0_pay4 a b c d w := rfl

theorem arr0_2 (c : Dev nD) :
    (dat0 V c).arrAt 2 cfg0.N = (fun j : S2x4x48x64x640.Idx => phase (V c main_v1) (V c main_v42) (j 0) (j 1) (j 2) (j 3) (j 4) : S2x4x48x64x640.Idx → EReal) := by
  refine (dat0 V c).arrAt_eq_of_covers 2 _ (by decide +kernel) fun t hf y => ?_
  blk_simp
  rw [after0_2]; unfold outsAt0; dsimp only
  frame_out
  have hY : 4 * (t.val % 12) + 4 ≤ 48 := by omega
  unfold k0_pay2 k0_pay18 k0_pay11 k0_pay6 k0_pay5
  simp only [pay10_9, pay17_14, pay1_21, ld1_00, ld1_01, ld1_10, ld1_11, ld2_00, ld2_01, ld2_10, ld2_11, ld3_00, ld3_01, ld3_10, ld3_11, ldW_0, ldW_1, ldW_2, ldW_3,
    pay4_0 _ _ _ _ hY, pay4_1 _ _ _ _ hY, pay4_2 _ _ _ _ hY, pay4_3 _ _ _ _ hY]
  rw [emb0_2]
  canon_tiles y h
  all_goals
    pointwise [tile]
    refine phase_congr rfl ?_ ?_ ?_ ?_ <;> (try simp only [ix5, Fin.isValue]) <;> omega

/-- The sum of `f` over the 256 pixels of row tile `τ` of the four phases. -/
def tsum (f : Fin 4 → Fin 48 → Fin 64 → EReal) (q : Fin 12) : EReal :=
  ∑ p : Fin 4, ∑ r : Fin 256, f p ⟨4 * q.val + r.val / 64, by omega⟩ ⟨r.val % 64, by omega⟩

/-- The two statistics of a row tile: the sum of the phase products (row 0) and of their squares (row 1). -/
def stat0 (X : S2x50x66x640.Idx → EReal) (Wk : S4x2560x640.Idx → EReal) : S2x12x2x640.Idx → EReal := fun j =>
  if (j 2).val = 0 then tsum (fun p y x => phase X Wk (j 0) p y x (j 3)) (j 1)
  else tsum (fun p y x => phase X Wk (j 0) p y x (j 3) * phase X Wk (j 0) p y x (j 3)) (j 1)

theorem arr0_3 (c : Dev nD) : (dat0 V c).arrAt 3 cfg0.N = stat0 (V c main_v1) (V c main_v42) := by
  refine (dat0 V c).arrAt_eq_of_covers 3 _ (by decide +kernel) fun t hf y => ?_
  blk_simp
  rw [after0_3]; unfold outsAt0; dsimp only
  frame_out
  have hY : 4 * (t.val % 12) + 4 ≤ 48 := by omega
  simp only [ld1_00, ld1_01, ld1_10, ld1_11, ld2_00, ld2_01, ld2_10, ld2_11, ld3_00, ld3_01, ld3_10, ld3_11, ldW_0, ldW_1, ldW_2, ldW_3]
  rw [emb0_3]
  pointwise [k0_pay3, k0_pay19, k0_pay12, k0_pay7, k0_pay20, k0_pay13, k0_pay8]
  simp only [pay10_9, pay17_14, pay1_21, pay4_0 _ _ _ _ hY, pay4_1 _ _ _ _ hY, pay4_2 _ _ _ _ hY, pay4_3 _ _ _ _ hY]
  unfold stat0 tsum
  simp only [Fin.sum_univ_four]
  have h2 : (y 2).val < 2 := (y 2).isLt
  by_cases h : (y 2).val = 0
  · rw [dif_pos (by omega)]
    exact (if_pos h).symm
  · rw [dif_neg (by omega)]
    exact (if_neg h).symm

end Cert.KernelIdeal.Gen

end

end
-- ==== Proof.Reg1.lean ====
/- What the second call leaves in its two arrays: normalise by the tile statistics, activate, multiply, add the bias. -/
module

public import proofs.«01_k».proof.Proof.Reg0

@[expose] public section

noncomputable section

namespace Cert.KernelIdeal.Gen
open Idealize.ShloMosaic Idealize.ShloMosaic.TcCoe Idealize.ShloMosaic.Tactic Idealize.SL.Sem

set_option maxRecDepth 16384

theorem coords1 : ∀ t : Fin cfg1.N, ((grid1.coords t) 0).val = t.val / 6 := by decide +kernel
theorem idx1_0 : ∀ t : Fin cfg1.N, win1_0.index t = ![t.val / 6, t.val % 6, 0] := by decide +kernel
theorem idx1_1 : ∀ t : Fin cfg1.N, win1_1.index t = ![0, 0, 0, 0] := by decide +kernel
theorem idx1_2 : ∀ t : Fin cfg1.N, win1_2.index t = ![0, 0] := by decide +kernel
theorem idx1_3 : ∀ t : Fin cfg1.N, win1_3.index t = ![0, 0] := by decide +kernel
theorem idx1_4 : ∀ t : Fin cfg1.N, win1_4.index t = ![t.val / 6, t.val % 6, 0] := by decide +kernel
theorem idx1_5 : ∀ t : Fin cfg1.N, win1_5.index t = ![t.val / 6, t.val % 6, 0, 0] := by decide +kernel

variable (V : (c : Dev nD) → (b : Ref sig .tc) → Buf (Elt Ideal) ((c : Thread nD τ).loc b))

theorem lt1 (t : Fin cfg1.N) : t.val / 6 < 2 := by have h : t.val < 12 := t.isLt; omega

theorem read1_0 (c : Dev nD) (t : Fin cfg1.N) (a : Fin 1) (r : Fin 2048) (i : Fin 640) :
    iblk1 V c 0 t (ix3 a r i) = (V c main_v44 : S2x12288x640.Idx → EReal) (ix3 ⟨t.val / 6, lt1 t⟩ ⟨2048 * (t.val % 6) + r.val, by omega⟩ i) := by
  blk_ext [iblk1, idx1_0 t]
theorem read1_1 (c : Dev nD) (t : Fin cfg1.N) (b : Fin 2) (q : Fin 12) (r : Fin 2) (i : Fin 640) :
    iblk1 V c 1 t (ix4 b q r i) = (V c main_v43_1 : S2x12x2x640.Idx → EReal) (ix4 b q r i) := by
  blk_ext [iblk1, idx1_1 t]
theorem read1_2 (c : Dev nD) (t : Fin cfg1.N) (k o : Fin 640) :
    iblk1 V c 2 t (ix2 k o) = (V c main_v46 : S640x640.Idx → EReal) (ix2 k o) := by
  blk_ext [iblk1, idx1_2 t]
theorem read1_3 (c : Dev nD) (t : Fin cfg1.N) (z : Fin 1) (o : Fin 640) :
    iblk1 V c 3 t (ix2 z o) = (V c main_v47 : S1x640.Idx → EReal) (ix2 z o) := by
  blk_ext [iblk1, idx1_3 t]

/-- A value normalised by the sum `S` and the sum of squares `Q` over the pixels of its channel. -/
def nz (h S Q : EReal) : EReal :=
  (h - S * Named.named (F := Ideal) κ (φ := .f32) "inv_npix" 0x38AAAAAB#32)
    * Ideal.rsqrt (Q * Named.named (F := Ideal) κ (φ := .f32) "inv_npix" 0x38AAAAAB#32
      - S * Named.named (F := Ideal) κ (φ := .f32) "inv_npix" 0x38AAAAAB#32 * (S * Named.named (F := Ideal) κ (φ := .f32) "inv_npix" 0x38AAAAAB#32)
      + Ideal.ofBits .f32 0x3727C5AC#32)

/-- The activation: a value times its logistic. -/
def act (z : EReal) : EReal := z * Ideal.logistic z

/-- One pixel and output channel of a normalised, activated, 1×1-convolved layer. -/
def layer {n k : ℕ} (H : (⟨3, ![2, 12288, 640]⟩ : Shape).Idx → EReal) (St : (⟨4, ![2, k, 2, 640]⟩ : Shape).Idx → EReal)
    (W : (⟨2, ![640, n]⟩ : Shape).Idx → EReal) (B : (⟨2, ![1, n]⟩ : Shape).Idx → EReal) (b : Fin 2) (m : Fin 12288) (o : Fin n) : EReal :=
  ∑ x : Fin 640, act (nz (H (ix3 b m x)) (∑ q : Fin k, St (ix4 b q 0 x)) (∑ q : Fin k, St (ix4 b q 1 x))) * W (ix2 x o) + B (ix2 0 o)

theorem layer_congr {n k : ℕ} {H : (⟨3, ![2, 12288, 640]⟩ : Shape).Idx → EReal} {St : (⟨4, ![2, k, 2, 640]⟩ : Shape).Idx → EReal}
    {W : (⟨2, ![640, n]⟩ : Shape).Idx → EReal} {B : (⟨2, ![1, n]⟩ : Shape).Idx → EReal} {b b' : Fin 2} {m m' : Fin 12288} {o o' : Fin n}
    (hb : b.val = b'.val) (hm : m.val = m'.val) (ho : o.val = o'.val) : layer H St W B b m o = layer H St W B b' m' o' := by
  obtain rfl := Fin.ext hb; obtain rfl := Fin.ext hm; obtain rfl := Fin.ext ho; rfl

/-- The statistics of the image of point `t`. -/
def stB (St : S2x12x2x640.Idx → EReal) (b : Fin 2) : S1x12x2x640.Idx → EReal :=
  fun j => St (ix4 b ⟨(j 1).val, (j 1).isLt⟩ ⟨(j 2).val, (j 2).isLt⟩ ⟨(j 3).val, (j 3).isLt⟩)

theorem ldS1 (c : Dev nD) (t : Fin cfg1.N) (h) : View.ld (iblk1 V c 1 t) (Rect.unit (k1_off1 (grid1.coords t)) ![1, 12, 2, 640] h)
    = stB (V c main_v43_1) ⟨t.val / 6, lt1 t⟩ := by
  have e : k1_off1 (grid1.coords t) = ![t.val / 6, 0, 0, 0] := by rw [k1_off1_eq, coords1]
  revert h; rw [e]; intro h
  funext j
  rw [eq_ix4 j]
  pointwise [read1_1, stB]

/-- The block product at a pixel is the layer there. -/
theorem pay2_at (c : Dev nD) (t : Fin cfg1.N) (r : Fin 2048) (o : Fin 640) :
    k1_pay2 (F := Ideal) (stB (V c main_v43_1) ⟨t.val / 6, lt1 t⟩) (iblk1 V c 0 t) (iblk1 V c 2 t) (iblk1 V c 3 t) (ix2 r o)
      = layer (k := 12) (V c main_v44) (V c main_v43_1) (V c main_v46) (V c main_v47) ⟨t.val / 6, lt1 t⟩ ⟨2048 * (t.val % 6) + r.val, by omega⟩ o := by
  pointwise [k1_pay2, read1_0, read1_2, read1_3, stB]
  rfl

theorem emb1_4 (t : Fin cfg1.N) (y : ((cfg1.win 4).xblock (cfg1.grid.coords t)).Idx) :
    ((View.whole main_v48_0).slice (win1_4.rect t)).emb y
      = (ix3 ⟨t.val / 6, lt1 t⟩ ⟨2048 * (t.val % 6) + (y 1).val, by have h : (y 1).val < 2048 := (y 1).isLt; omega⟩ ⟨(y 2).val, (y 2).isLt⟩ : S2x12288x640.Idx) := by
  blk_ext [idx1_4 t]

theorem emb1_5 (t : Fin cfg1.N) (y : ((cfg1.win 5).xblock (cfg1.grid.coords t)).Idx) :
    ((View.whole main_v48_1).slice (win1_5.rect t)).emb y
      = (ix4 ⟨t.val / 6, lt1 t⟩ ⟨t.val % 6, by omega⟩ ⟨(y 2).val, (y 2).isLt⟩ ⟨(y 3).val, (y 3).isLt⟩ : S2x6x2x640.Idx) := by
  blk_ext [idx1_5 t]

/-- The second call's product, entry by entry. -/
def out1 (H : S2x12288x640.Idx → EReal) (St : S2x12x2x640.Idx → EReal) (W : S640x640.Idx → EReal) (B : S1x640.Idx → EReal) : S2x12288x640.Idx → EReal :=
  fun j => layer (k := 12) H St W B (j 0) (j 1) (j 2)

theorem arr1_4 (c : Dev nD) :
    (dat1 V c).arrAt 4 cfg1.N = out1 (V c main_v44) (V c main_v43_1) (V c main_v46) (V c main_v47) := by
  refine (dat1 V c).arrAt_eq_of_covers 4 _ (by decide +kernel) fun t hf y => ?_
  blk_simp
  rw [after1_4]; unfold outsAt1; dsimp only
  frame_out
  rw [emb1_4, ldS1]
  pointwise [k1_pay3]
  exact (pay2_at V c t _ _).trans (layer_congr rfl rfl rfl)

/-- The two statistics of a tile of 2048 pixels: the sum of a channel (row 0) and of its square (row 1). -/
def stat1At (H : S2x12288x640.Idx → EReal) (b : Fin 2) (q : Fin 6) (s : Fin 2) (o : Fin 640) : EReal :=
  if s.val = 0 then ∑ r : Fin 2048, H (ix3 b ⟨2048 * q.val + r.val, by omega⟩ o)
  else ∑ r : Fin 2048, H (ix3 b ⟨2048 * q.val + r.val, by omega⟩ o) * H (ix3 b ⟨2048 * q.val + r.val, by omega⟩ o)

def stat1 (H : S2x12288x640.Idx → EReal) : S2x6x2x640.Idx → EReal := fun j => stat1At H (j 0) (j 1) (j 2) (j 3)

/-- The statistics the body stores, over its block product. -/
theorem pay145_at (v1 : S1x12x2x640.Idx → EReal) (v15 : S1x2048x640.Idx → EReal) (v23 : S640x640.Idx → EReal) (v26 : S1x640.Idx → EReal)
    (a a' : Fin 1) (s : Fin 2) (o : Fin 640) :
    k1_pay1 (F := Ideal) (k1_pay4 v1 v15 v23 v26) (k1_pay5 v1 v15 v23 v26) (ix4 a a' s o)
      = if s.val = 0 then ∑ r : Fin 2048, k1_pay2 (F := Ideal) v1 v15 v23 v26 (ix2 r o)
        else ∑ r : Fin 2048, k1_pay2 (F := Ideal) v1 v15 v23 v26 (ix2 r o) * k1_pay2 (F := Ideal) v1 v15 v23 v26 (ix2 r o) := by
  pointwise [k1_pay1, k1_pay4, k1_pay5]
  have h2 : s.val < 2 := s.isLt
  split_ifs <;> first | rfl | omega

theorem stat1_congr (H : S2x12288x640.Idx → EReal) (b : Fin 2) (q : Fin 6) (s : Fin 2) (o : Fin 640) (f : Fin 2048 → EReal)
    (hf : ∀ r : Fin 2048, f r = H (ix3 b ⟨2048 * q.val + r.val, by omega⟩ o)) :
    (if s.val = 0 then ∑ r, f r else ∑ r, f r * f r) = stat1At H b q s o := by
  unfold stat1At
  simp only [hf]

theorem arr1_5 (c : Dev nD) :
    (dat1 V c).arrAt 5 cfg1.N = stat1 (out1 (V c main_v44) (V c main_v43_1) (V c main_v46) (V c main_v47)) := by
  refine (dat1 V c).arrAt_eq_of_covers 5 _ (by decide +kernel) fun t hf y => ?_
  blk_simp
  rw [after1_5]; unfold outsAt1; dsimp only
  frame_out
  rw [emb1_5, ldS1, ldS1]
  generalize hX : out1 (V c main_v44) (V c main_v43_1) (V c main_v46) (V c main_v47) = X
  have hf : ∀ (r : Fin 2048) (o : Fin 640), k1_pay2 (F := Ideal) (stB (V c main_v43_1) ⟨t.val / 6, lt1 t⟩) (iblk1 V c 0 t) (iblk1 V c 2 t) (iblk1 V c 3 t) (ix2 r o)
      = X (ix3 ⟨t.val / 6, lt1 t⟩ ⟨2048 * (t.val % 6) + r.val, by omega⟩ o) := by
    intro r o; rw [← hX]; exact pay2_at V c t r o
  generalize stB (V c main_v43_1) ⟨t.val / 6, lt1 t⟩ = v1 at hf ⊢
  generalize iblk1 V c 0 t = v15 at hf ⊢
  generalize iblk1 V c 2 t = v23 at hf ⊢
  generalize iblk1 V c 3 t = v26 at hf ⊢
  obtain ⟨a0, a1, s, o, rfl⟩ : ∃ (a0 a1 : Fin 1) (s : Fin 2) (o : Fin 640), y = ix4 a0 a1 s o := ⟨y 0, y 1, y 2, y 3, eq_ix4 y⟩
  refine (pay145_at _ _ _ _ _ _ _ _).trans ?_
  exact stat1_congr X _ _ _ _ _ fun r => hf r o

end Cert.KernelIdeal.Gen

end

end
-- ==== Proof.Reg2.lean ====
/- What the third call leaves in its first array: the second layer's logits. -/
module

public import proofs.«01_k».proof.Proof.Reg1

@[expose] public section

noncomputable section

namespace Cert.KernelIdeal.Gen
open Idealize.ShloMosaic Idealize.ShloMosaic.TcCoe Idealize.ShloMosaic.Tactic Idealize.SL.Sem

set_option maxRecDepth 16384

theorem coords2 : ∀ t : Fin cfg2.N, ((grid2.coords t) 0).val = t.val / 6 := by decide +kernel
theorem idx2_0 : ∀ t : Fin cfg2.N, win2_0.index t = ![t.val / 6, t.val % 6, 0] := by decide +kernel
theorem idx2_1 : ∀ t : Fin cfg2.N, win2_1.index t = ![0, 0, 0, 0] := by decide +kernel
theorem idx2_2 : ∀ t : Fin cfg2.N, win2_2.index t = ![0, 0] := by decide +kernel
theorem idx2_3 : ∀ t : Fin cfg2.N, win2_3.index t = ![0, 0] := by decide +kernel
theorem idx2_4 : ∀ t : Fin cfg2.N, win2_4.index t = ![t.val / 6, t.val % 6, 0] := by decide +kernel

variable (V : (c : Dev nD) → (b : Ref sig .tc) → Buf (Elt Ideal) ((c : Thread nD τ).loc b))

theorem lt2 (t : Fin cfg2.N) : t.val / 6 < 2 := by have h : t.val < 12 := t.isLt; omega

theorem read2_0 (c : Dev nD) (t : Fin cfg2.N) (a : Fin 1) (r : Fin 2048) (i : Fin 640) :
    iblk2 V c 0 t (ix3 a r i) = (V c main_v48_0 : S2x12288x640.Idx → EReal) (ix3 ⟨t.val / 6, lt2 t⟩ ⟨2048 * (t.val % 6) + r.val, by omega⟩ i) := by
  blk_ext [iblk2, idx2_0 t]
theorem read2_1 (c : Dev nD) (t : Fin cfg2.N) (b : Fin 2) (q : Fin 6) (r : Fin 2) (i : Fin 640) :
    iblk2 V c 1 t (ix4 b q r i) = (V c main_v48_1 : S2x6x2x640.Idx → EReal) (ix4 b q r i) := by
  blk_ext [iblk2, idx2_1 t]
theorem read2_2 (c : Dev nD) (t : Fin cfg2.N) (k : Fin 640) (o : Fin 133) :
    iblk2 V c 2 t (ix2 k o) = (V c main_v50 : S640x133.Idx → EReal) (ix2 k o) := by
  blk_ext [iblk2, idx2_2 t]
theorem read2_3 (c : Dev nD) (t : Fin cfg2.N) (z : Fin 1) (o : Fin 133) :
    iblk2 V c 3 t (ix2 z o) = (V c main_v51 : S1x133.Idx → EReal) (ix2 z o) := by
  blk_ext [iblk2, idx2_3 t]

/-- The statistics of the image of point `t`. -/
def stB2 (St : S2x6x2x640.Idx → EReal) (b : Fin 2) : S1x6x2x640.Idx → EReal :=
  fun j => St (ix4 b ⟨(j 1).val, (j 1).isLt⟩ ⟨(j 2).val, (j 2).isLt⟩ ⟨(j 3).val, (j 3).isLt⟩)

theorem ldS2 (c : Dev nD) (t : Fin cfg2.N) (h) : View.ld (iblk2 V c 1 t) (Rect.unit (k2_off1 (grid2.coords t)) ![1, 6, 2, 640] h)
    = stB2 (V c main_v48_1) ⟨t.val / 6, lt2 t⟩ := by
  have e : k2_off1 (grid2.coords t) = ![t.val / 6, 0, 0, 0] := by rw [k2_off1_eq, coords2]
  revert h; rw [e]; intro h
  funext j
  rw [eq_ix4 j]
  pointwise [read2_1, stB2]

/-- The block product at a pixel is the layer there. -/
theorem pay2_at' (c : Dev nD) (t : Fin cfg2.N) (a : Fin 1) (r : Fin 2048) (o : Fin 133) :
    k2_pay1 (F := Ideal) (stB2 (V c main_v48_1) ⟨t.val / 6, lt2 t⟩) (iblk2 V c 0 t) (iblk2 V c 2 t) (iblk2 V c 3 t) (ix3 a r o)
      = layer (k := 6) (V c main_v48_0) (V c main_v48_1) (V c main_v50) (V c main_v51) ⟨t.val / 6, lt2 t⟩ ⟨2048 * (t.val % 6) + r.val, by omega⟩ o := by
  pointwise [k2_pay1, read2_0, read2_2, read2_3, stB2]
  rfl

theorem emb2_4 (t : Fin cfg2.N) (y : ((cfg2.win 4).xblock (cfg2.grid.coords t)).Idx) :
    ((View.whole main_v52_0).slice (win2_4.rect t)).emb y
      = (ix3 ⟨t.val / 6, lt2 t⟩ ⟨2048 * (t.val % 6) + (y 1).val, by have h : (y 1).val < 2048 := (y 1).isLt; omega⟩ ⟨(y 2).val, (y 2).isLt⟩ : S2x12288x133.Idx) := by
  blk_ext [idx2_4 t]

/-- The third call's product, entry by entry. -/
def out2 (H : S2x12288x640.Idx → EReal) (St : S2x6x2x640.Idx → EReal) (W : S640x133.Idx → EReal) (B : S1x133.Idx → EReal) : S2x12288x133.Idx → EReal :=
  fun j => layer (k := 6) H St W B (j 0) (j 1) (j 2)

theorem arr2_4 (c : Dev nD) :
    (dat2 V c).arrAt 4 cfg2.N = out2 (V c main_v48_0) (V c main_v48_1) (V c main_v50) (V c main_v51) := by
  refine (dat2 V c).arrAt_eq_of_covers 4 _ (by decide +kernel) fun t hf y => ?_
  blk_simp
  rw [after2_4]; unfold outsAt2; dsimp only
  frame_out
  rw [emb2_4, ldS2]
  rw [eq_ix3 y]
  exact (pay2_at' V c t _ _ _).trans (layer_congr rfl rfl rfl)

end Cert.KernelIdeal.Gen

end

end
-- ==== Proof.Spec.lean ====
/- The mathematics both programs compute, stage by stage, on arrays of extended reals. -/
module

public import Idealize.ShloMosaic.Lib.Pointwise
public import Idealize.ShloMosaic.Lib.Pipeline.ValueKit

@[expose] public section

noncomputable section

namespace Cert.Spec
open Idealize.ShloMosaic Idealize.ShloMosaic.Tactic

/-- The input with a border of one zero pixel, pixels numbered from the border. -/
def xpad (x : (⟨4, ![2, 640, 48, 64]⟩ : Shape).Idx → EReal) (b : Fin 2) (i : Fin 640) (r s : ℕ) : EReal :=
  if h : (1 ≤ r ∧ r - 1 < 48) ∧ 1 ≤ s ∧ s - 1 < 64 then x (ix4 b i ⟨r - 1, h.1.2⟩ ⟨s - 1, h.2.2⟩) else 0

/-- The transposed convolution at an output pixel: the four taps its parity selects. -/
def deconv (x : (⟨4, ![2, 640, 48, 64]⟩ : Shape).Idx → EReal) (w : (⟨4, ![640, 640, 4, 4]⟩ : Shape).Idx → EReal)
    (b : Fin 2) (o : Fin 640) (y : Fin 96) (x' : Fin 128) : EReal :=
  ∑ q : Fin 4, ∑ i : Fin 640, xpad x b i (y.val / 2 + y.val % 2 + q.val / 2) (x'.val / 2 + x'.val % 2 + q.val % 2)
    * w (ix4 i o ⟨3 - y.val % 2 - 2 * (q.val / 2), by omega⟩ ⟨3 - x'.val % 2 - 2 * (q.val % 2), by omega⟩)

end Cert.Spec

end

end
-- ==== Proof.Host0.lean ====
/- What the host operations before the first call hand it: the input with its border, pixels first, and the
   transposed convolution's weights, one matrix for each output parity. -/
module

public import proofs.«01_k».proof.Proof.IdealRun
public import proofs.«01_k».proof.Proof.Spec

@[expose] public section

noncomputable section

namespace Cert.KernelIdeal.Gen
open Idealize.ShloMosaic Idealize.ShloMosaic.TcCoe Idealize.ShloMosaic.Tactic Idealize.SL.Sem
open StableHlo Cert.Spec

set_option maxRecDepth 16384
variable (m : (ℓ : Loc nD τ sig) → Buf (Elt Ideal) ℓ) (ρ : Dev nD → PrngReg)

/-- The first call reads the input with a border of one zero pixel, channels last. -/
theorem v1_at (c : Dev nD) (b : Fin 2) (r : Fin 50) (s : Fin 66) (i : Fin 640) :
    (V3 m ρ c main_v1 : S2x50x66x640.Idx → EReal) (ix4 b r s i)
      = xpad (W0 m ρ c (Proc.devRef .tc main_arg0) : S2x640x48x64.Idx → EReal) b i r.val s.val := by
  unfold V3 W3 W2 W1
  after_results
  generalize (W0 m ρ c (Proc.devRef .tc main_arg0)) = A
  change pad S2x50x66x640 ![0, 1, 1, 0] ![0, 1, 1, 0] ![0, 0, 0, 0] (transpose S2x48x64x640 [0, 2, 3, 1] (A : S2x640x48x64.Idx → EReal) transposes_S2x640x48x64_S2x48x64x640_0_2_3_1)
    (sitofp (F := Ideal) .f32 (constantI S_ 32 0#32)) pads_S2x48x64x640_S2x50x66x640_000_110_110_000 h_S_ (ix4 b r s i) = _
  pointwise []
  unfold xpad
  split_ifs with h
  · rfl
  · show (((0#32 : BitVec 32).toInt : ℝ) : EReal) = 0
    simp

/-- Four matrices one below the other. -/
abbrev below (A B C D : S640x640.Idx → EReal) : S2560x640.Idx → EReal :=
  concatenate S2560x640 0 [⟨S640x640, A⟩, ⟨S640x640, B⟩, ⟨S640x640, C⟩, ⟨S640x640, D⟩] concatenates_S640x640_S640x640_S640x640_S640x640_S2560x640_d0

/-- Four slabs one after the other. -/
abbrev slabs (A B C D : S1x2560x640.Idx → EReal) : S4x2560x640.Idx → EReal :=
  concatenate S4x2560x640 0 [⟨S1x2560x640, A⟩, ⟨S1x2560x640, B⟩, ⟨S1x2560x640, C⟩, ⟨S1x2560x640, D⟩] concatenates_S1x2560x640_S1x2560x640_S1x2560x640_S1x2560x640_S4x2560x640_d0

/-- An operation of four operands whose function is `g` of the operands leaves `g` of what they held. -/
theorem four_result {x a b c y : Ref sig .tc} {f : ((k : Fin 4) → ((![x, a, b, c] : Fin 4 → Ref sig .tc) k).ty.Contents (Elt Ideal)) → y.ty.Contents (Elt Ideal)}
    (g : x.ty.Contents (Elt Ideal) → a.ty.Contents (Elt Ideal) → b.ty.Contents (Elt Ideal) → c.ty.Contents (Elt Ideal) → y.ty.Contents (Elt Ideal))
    (hfg : ∀ u, f u = g (u 0) (u 1) (u 2) (u 3)) (hxs hy) (F : Valuation τ sig (Elt Ideal)) :
    (nary (τ := τ) ![x, a, b, c] y f hxs hy).result F (Proc.devRef .tc y)
      = g (F (Proc.devRef .tc x)) (F (Proc.devRef .tc a)) (F (Proc.devRef .tc b)) (F (Proc.devRef .tc c)) := by
  rw [nary4_result, hfg]
  rfl

theorem w_congr (A : S640x640x4x4.Idx → EReal) {i i' o : Fin 640} {u u' v v' : Fin 4} (hi : i.val = i'.val) (hu : u.val = u'.val) (hv : v.val = v'.val) :
    A (ix4 i o u v) = A (ix4 i' o u' v') := by
  obtain rfl := Fin.ext hi
  obtain rfl := Fin.ext hu
  obtain rfl := Fin.ext hv
  rfl

/-- The four quarters of a parity's matrix, by row. -/
theorem rows_pick (A : S640x640x4x4.Idx → EReal) (k : Fin 2560) (o : Fin 640) (u0 v0 u1 v1 u2 v2 u3 v3 u v : Fin 4)
    (h0 : k.val / 640 = 0 → u0 = u ∧ v0 = v) (h1 : k.val / 640 = 1 → u1 = u ∧ v1 = v)
    (h2 : k.val / 640 = 2 → u2 = u ∧ v2 = v) (h3 : k.val / 640 = 3 → u3 = u ∧ v3 = v) :
    (if h : k.val < 640 then A (ix4 ⟨k.val, h⟩ o u0 v0)
      else
        if h : k.val - 640 < 640 then A (ix4 ⟨k.val - 640, h⟩ o u1 v1)
        else
          if h : k.val - 640 - 640 < 640 then A (ix4 ⟨k.val - 640 - 640, h⟩ o u2 v2)
          else A (ix4 ⟨k.val - 640 - 640 - 640, by omega⟩ o u3 v3)) = A (ix4 ⟨k.val % 640, Nat.mod_lt _ (by decide)⟩ o u v) := by
  split_ifs with a b c
  · obtain ⟨rfl, rfl⟩ := h0 (by omega)
    exact w_congr A (by simp only; omega) rfl rfl
  · obtain ⟨rfl, rfl⟩ := h1 (by omega)
    exact w_congr A (by simp only; omega) rfl rfl
  · obtain ⟨rfl, rfl⟩ := h2 (by omega)
    exact w_congr A (by simp only; omega) rfl rfl
  · obtain ⟨rfl, rfl⟩ := h3 (by omega)
    exact w_congr A (by simp only; omega) rfl rfl

set_option maxHeartbeats 2000000 in
/-- The first call's weights: for the output parity `p`, row `k` is tap `k / 640` of input channel `k % 640`. -/
theorem v42_at (c : Dev nD) (p : Fin 4) (k : Fin 2560) (o : Fin 640) :
    (V3 m ρ c main_v42 : S4x2560x640.Idx → EReal) (ix3 p k o)
      = (W0 m ρ c (Proc.devRef .tc main_arg1) : S640x640x4x4.Idx → EReal)
          (ix4 ⟨k.val % 640, Nat.mod_lt _ (by decide)⟩ o ⟨3 - p.val / 2 - 2 * (k.val / 640 / 2), by omega⟩ ⟨3 - p.val % 2 - 2 * (k.val / 640 % 2), by omega⟩) := by
  have e : W0 m ρ c (Proc.devRef .tc main_arg1) = W2 m ρ c (Proc.devRef .tc main_arg1) := by
    rw [W2_of m ρ c main_arg1 (by decide), W1_of m ρ c main_arg1 (by decide)]
  rw [e]
  unfold V3 W3
  generalize W2 m ρ c = V
  simp (disch := decide) only [after_cons, after_nil,
    four_result (x := main_v38) (a := main_v39) (b := main_v40) (c := main_v41) (y := main_v42) slabs (fun u => rfl),
    four_result (x := main_v3) (a := main_v5) (b := main_v7) (c := main_v9) (y := main_v10) below (fun u => rfl),
    four_result (x := main_v12) (a := main_v14) (b := main_v16) (c := main_v18) (y := main_v19) below (fun u => rfl),
    four_result (x := main_v21) (a := main_v23) (b := main_v25) (c := main_v27) (y := main_v28) below (fun u => rfl),
    four_result (x := main_v30) (a := main_v32) (b := main_v34) (c := main_v36) (y := main_v37) below (fun u => rfl),
    unary_result', reshape_result', nary_result_ne', unary_result_ne', reshape_result_ne']
  generalize (V (Proc.devRef .tc main_arg1)) = A
  pointwise [below, slabs]
  by_cases h0 : p.val < 1
  · rw [dif_pos h0]
    refine rows_pick A k o _ _ _ _ _ _ _ _ _ _ ?_ ?_ ?_ ?_ <;> intro hk <;> constructor <;> apply Fin.ext <;> simp [hk, show p.val = 0 by omega]
  rw [dif_neg h0]
  by_cases h1 : p.val - 1 < 1
  · rw [dif_pos h1]
    refine rows_pick A k o _ _ _ _ _ _ _ _ _ _ ?_ ?_ ?_ ?_ <;> intro hk <;> constructor <;> apply Fin.ext <;> simp [hk, show p.val = 1 by omega]
  rw [dif_neg h1]
  by_cases h2 : p.val - 1 - 1 < 1
  · rw [dif_pos h2]
    refine rows_pick A k o _ _ _ _ _ _ _ _ _ _ ?_ ?_ ?_ ?_ <;> intro hk <;> constructor <;> apply Fin.ext <;> simp [hk, show p.val = 2 by omega]
  rw [dif_neg h2]
  refine rows_pick A k o _ _ _ _ _ _ _ _ _ _ ?_ ?_ ?_ ?_ <;> intro hk <;> constructor <;> apply Fin.ext <;> simp [hk, show p.val = 3 by omega]

end Cert.KernelIdeal.Gen

end

end
-- ==== Proof.Norm.lean ====
/- Instance normalisation over the reals: the kernel's `E[h²] - E[h]²` and the reference's mean of squared deviations are one
   variance, and what is normalised and activated is again real. -/
module

public import proofs.«01_k».proof.Proof.Spec

@[expose] public section

noncomputable section

namespace Cert.Spec
open Idealize.ShloMosaic Idealize.ShloMosaic.Tactic

/-- Neither infinity. -/
def IsReal (e : EReal) : Prop := ∃ r : ℝ, e = (r : EReal)

theorem IsReal.add {a b : EReal} : IsReal a → IsReal b → IsReal (a + b) := fun ⟨r, hr⟩ ⟨s, hs⟩ => ⟨r + s, by rw [hr, hs, EReal.coe_add]⟩
theorem IsReal.sub {a b : EReal} : IsReal a → IsReal b → IsReal (a - b) := fun ⟨r, hr⟩ ⟨s, hs⟩ => ⟨r - s, by rw [hr, hs, EReal.coe_sub]⟩
theorem IsReal.mul {a b : EReal} : IsReal a → IsReal b → IsReal (a * b) := fun ⟨r, hr⟩ ⟨s, hs⟩ => ⟨r * s, by rw [hr, hs, EReal.coe_mul]⟩
theorem IsReal.zero : IsReal 0 := ⟨0, EReal.coe_zero.symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} {s : Finset ι} {f : ι → EReal} (h : ∀ i, IsReal (f i)) : IsReal (∑ i ∈ s, f i) := by
  choose r hr using h
  exact ⟨∑ i ∈ s, r i, by rw [coe_sum]; exact Finset.sum_congr rfl fun i _ => hr i⟩

/-- The number of pixels, as the reference writes it. -/
def npix : EReal := Ideal.ofBits .f32 1178599424#32

theorem npix_eq : npix = ((12288 : ℝ) : EReal) := by
  unfold npix
  simp [Ideal.ofBits, Ideal.ieee, -EReal.coe_mul]
  norm_num

/-- What both programs add to a variance. -/
def eps : EReal := Ideal.ofBits .f32 0x3727C5AC#32

theorem eps_pos : ∃ r : ℝ, 0 < r ∧ eps = (r : EReal) := by
  unfold eps
  refine ⟨10995116 * 2 ^ (-40 : ℤ), by positivity, ?_⟩
  simp [Ideal.ofBits, Ideal.ieee, -EReal.coe_mul]

/-- The mean of a channel. -/
def mean (g : Fin 96 → Fin 128 → EReal) : EReal := Ideal.div (∑ y, ∑ x, g y x) npix

/-- The variance of a channel. -/
def variance (g : Fin 96 → Fin 128 → EReal) : EReal := Ideal.div (∑ y, ∑ x, (g y x - mean g) * (g y x - mean g)) npix

/-- A channel normalised. -/
def inorm (g : Fin 96 → Fin 128 → EReal) (y : Fin 96) (x : Fin 128) : EReal := (g y x - mean g) * Ideal.rsqrt (variance g + eps)

/-- The activation: a value times its logistic. -/
def silu (z : EReal) : EReal := z * Ideal.logistic z

/-- A normalised, activated, 1×1-convolved layer. -/
def conv {n : ℕ} (g : Fin 640 → Fin 96 → Fin 128 → EReal) (W : Fin n → Fin 640 → EReal) (B : Fin n → EReal) (o : Fin n) (y : Fin 96) (x : Fin 128) : EReal :=
  ∑ i : Fin 640, W o i * silu (inorm (g i) y x) + B o

theorem mean_real (r : Fin 96 → Fin 128 → ℝ) : mean (fun y x => (r y x : EReal)) = (((∑ y, ∑ x, r y x) * (1 / 12288) : ℝ) : EReal) := by
  unfold mean
  rw [npix_eq, Ideal.div_coe (by norm_num), EReal.coe_mul, coe_sum]
  simp only [coe_sum]

theorem variance_real (r : Fin 96 → Fin 128 → ℝ) (μ : ℝ) (hμ : mean (fun y x => (r y x : EReal)) = (μ : EReal)) :
    variance (fun y x => (r y x : EReal)) = (((∑ y, ∑ x, (r y x - μ) * (r y x - μ)) * (1 / 12288) : ℝ) : EReal) := by
  unfold variance
  rw [npix_eq, Ideal.div_coe (by norm_num), hμ, EReal.coe_mul, coe_sum]
  simp only [coe_sum, EReal.coe_mul, EReal.coe_sub]

theorem inorm_real {g : Fin 96 → Fin 128 → EReal} (hg : ∀ y x, IsReal (g y x)) (y : Fin 96) (x : Fin 128) : IsReal (inorm g y x) := by
  choose r hr using hg
  obtain rfl : g = fun y x => (r y x : EReal) := by funext y x; exact hr y x
  have hμ := mean_real r
  have hv := variance_real r _ hμ
  obtain ⟨e, he, hE⟩ := eps_pos
  unfold inorm
  rw [hμ, hv, hE, ← EReal.coe_add, Ideal.rsqrt_coe]
  have h0 : (0 : ℝ) ≤ (∑ y, ∑ x, (r y x - (∑ y, ∑ x, r y x) * (1 / 12288)) * (r y x - (∑ y, ∑ x, r y x) * (1 / 12288))) * (1 / 12288) :=
    mul_nonneg (Finset.sum_nonneg fun y _ => Finset.sum_nonneg fun x _ => mul_self_nonneg _) (by norm_num)
  rw [if_neg (by linarith), if_neg (by linarith)]
  exact IsReal.mul (IsReal.sub ⟨_, rfl⟩ ⟨_, rfl⟩) ⟨_, rfl⟩

theorem silu_real {z : EReal} : IsReal z → IsReal (silu z) := by
  rintro ⟨r, rfl⟩
  unfold silu
  rw [Ideal.logistic_coe]
  exact IsReal.mul ⟨_, rfl⟩ ⟨_, rfl⟩

theorem conv_real {n : ℕ} {g : Fin 640 → Fin 96 → Fin 128 → EReal} {W : Fin n → Fin 640 → EReal} {B : Fin n → EReal}
    (hg : ∀ i y x, IsReal (g i y x)) (hW : ∀ o i, IsReal (W o i)) (hB : ∀ o, IsReal (B o)) (o : Fin n) (y : Fin 96) (x : Fin 128) : IsReal (conv g W B o y x) :=
  IsReal.add (IsReal.sum fun i => IsReal.mul (hW o i) (silu_real (inorm_real (hg i) y x))) (hB o)

/-- The variance as the mean of squares less the square of the mean. -/
theorem moments (r : Fin 96 → Fin 128 → ℝ) (κ μ : ℝ) (hκ : κ = 1 / 12288) (hμ : μ = (∑ y, ∑ x, r y x) * κ) :
    (∑ y, ∑ x, r y x * r y x) * κ - μ * μ = (∑ y, ∑ x, (r y x - μ) * (r y x - μ)) * κ := by
  have e : ∀ y x, (r y x - μ) * (r y x - μ) = r y x * r y x - 2 * μ * r y x + μ * μ := fun y x => by ring
  have hs : (∑ y : Fin 96, ∑ x : Fin 128, r y x) = μ * 12288 := by rw [hμ, hκ]; ring
  simp only [e, Finset.sum_add_distrib, Finset.sum_sub_distrib, ← Finset.mul_sum, hs, Finset.sum_const, Finset.card_univ, Fintype.card_fin, nsmul_eq_mul]
  rw [hκ]
  push_cast
  ring

/-- The kernel's normalisation by sums is the reference's by mean and variance. -/
theorem inorm_of_sums {g : Fin 96 → Fin 128 → EReal} (hg : ∀ y x, IsReal (g y x)) (y : Fin 96) (x : Fin 128) (κ : EReal) (hκ : κ = ((1 / 12288 : ℝ) : EReal)) :
    (g y x - (∑ y, ∑ x, g y x) * κ) * Ideal.rsqrt ((∑ y, ∑ x, g y x * g y x) * κ - (∑ y, ∑ x, g y x) * κ * ((∑ y, ∑ x, g y x) * κ) + eps) = inorm g y x := by
  choose r hr using hg
  obtain rfl : g = fun y x => (r y x : EReal) := by funext y x; exact hr y x
  have hμ := mean_real r
  have hv := variance_real r _ hμ
  have hs : (∑ y, ∑ x, (r y x : EReal)) * κ = (((∑ y, ∑ x, r y x) * (1 / 12288) : ℝ) : EReal) := by
    rw [hκ, EReal.coe_mul, coe_sum]; simp only [coe_sum]
  have hq : (∑ y, ∑ x, (r y x : EReal) * (r y x : EReal)) * κ = (((∑ y, ∑ x, r y x * r y x) * (1 / 12288) : ℝ) : EReal) := by
    rw [hκ, EReal.coe_mul, coe_sum]; simp only [coe_sum, EReal.coe_mul]
  unfold inorm
  rw [hμ, hv, hs, hq, ← EReal.coe_mul, ← EReal.coe_sub, ← EReal.coe_sub, moments r (1 / 12288) _ rfl rfl]

end Cert.Spec

end

end
-- ==== Proof.Pixels.lean ====
/- The kernel sums over the pixels tile by tile; each order of summation is the plain one by rows and columns. -/
module

public import proofs.«01_k».proof.Proof.Spec

@[expose] public section

noncomputable section

namespace Cert.Spec
open Idealize.ShloMosaic Idealize.ShloMosaic.Tactic

/-- The row of the image at the kernel's pixel `m`: parity planes outermost. -/
def rowOf (m : Fin 12288) : Fin 96 := ⟨2 * (m.val % 3072 / 64) + m.val / 3072 / 2, by omega⟩
/-- The column of the image at the kernel's pixel `m`. -/
def colOf (m : Fin 12288) : Fin 128 := ⟨2 * (m.val % 64) + m.val / 3072 % 2, by omega⟩

/-- A pixel number recovered from its row and column. -/
theorem pixel_back (m : ℕ) (hm : m < 12288) :
    (2 * ((2 * (m % 3072 / 64) + m / 3072 / 2) % 2) + (2 * (m % 64) + m / 3072 % 2) % 2) * 3072 + (2 * (m % 3072 / 64) + m / 3072 / 2) / 2 * 64
      + (2 * (m % 64) + m / 3072 % 2) / 2 = m := by
  have h : m = m / 3072 * 3072 + m % 3072 / 64 * 64 + m % 64 := by omega
  have ha : m / 3072 < 4 := by omega
  generalize m / 3072 = a at h ha ⊢
  generalize m % 3072 / 64 = b at h ⊢
  generalize m % 64 = c at h ⊢
  have h2 : a = 0 ∨ a = 1 ∨ a = 2 ∨ a = 3 := by omega
  rcases h2 with rfl | rfl | rfl | rfl <;> omega

/-- A pixel number taken apart. -/
theorem pixel_parts (a b c : ℕ) (hb : b < 48) (hc : c < 64) :
    (a * 3072 + b * 64 + c) / 3072 = a ∧ (a * 3072 + b * 64 + c) % 3072 / 64 = b ∧ (a * 3072 + b * 64 + c) % 64 = c := by
  omega

/-- Tiles of four rows of each parity plane. -/
theorem sum_planes (f : Fin 96 → Fin 128 → EReal) :
    ∑ q : Fin 12, ∑ p : Fin 4, ∑ r : Fin 256, f ⟨2 * (4 * q.val + r.val / 64) + p.val / 2, by omega⟩ ⟨2 * (r.val % 64) + p.val % 2, by omega⟩
      = ∑ y, ∑ x, f y x := by
  simp only [← Fintype.sum_prod_type']
  refine Finset.sum_bij' (fun (a : Fin 12 × Fin 4 × Fin 256) _ => ((⟨2 * (4 * a.1.val + a.2.2.val / 64) + a.2.1.val / 2, by omega⟩, ⟨2 * (a.2.2.val % 64) + a.2.1.val % 2, by omega⟩) : Fin 96 × Fin 128))
    (fun (a : Fin 96 × Fin 128) _ => ((⟨a.1.val / 8, by omega⟩, ⟨2 * (a.1.val % 2) + a.2.val % 2, by omega⟩, ⟨64 * (a.1.val / 2 % 4) + a.2.val / 2, by omega⟩) : Fin 12 × Fin 4 × Fin 256))
    (fun _ _ => Finset.mem_univ _) (fun _ _ => Finset.mem_univ _) ?_ ?_ (fun _ _ => rfl)
  · rintro ⟨q, p, r⟩ _
    refine Prod.ext (Fin.ext ?_) (Prod.ext (Fin.ext ?_) (Fin.ext ?_)) <;> simp only <;> omega
  · rintro ⟨y, x⟩ _
    refine Prod.ext (Fin.ext ?_) (Fin.ext ?_) <;> simp only <;> omega

/-- Tiles of 2048 consecutive pixels. -/
theorem sum_tiles (f : Fin 96 → Fin 128 → EReal) :
    ∑ q : Fin 6, ∑ r : Fin 2048, f (rowOf ⟨2048 * q.val + r.val, by omega⟩) (colOf ⟨2048 * q.val + r.val, by omega⟩) = ∑ y, ∑ x, f y x := by
  simp only [← Fintype.sum_prod_type']
  refine Finset.sum_bij' (fun (a : Fin 6 × Fin 2048) _ => ((rowOf ⟨2048 * a.1.val + a.2.val, by omega⟩, colOf ⟨2048 * a.1.val + a.2.val, by omega⟩) : Fin 96 × Fin 128))
    (fun (a : Fin 96 × Fin 128) _ => ((⟨((2 * (a.1.val % 2) + a.2.val % 2) * 3072 + a.1.val / 2 * 64 + a.2.val / 2) / 2048, by omega⟩,
      ⟨((2 * (a.1.val % 2) + a.2.val % 2) * 3072 + a.1.val / 2 * 64 + a.2.val / 2) % 2048, by omega⟩) : Fin 6 × Fin 2048))
    (fun _ _ => Finset.mem_univ _) (fun _ _ => Finset.mem_univ _) ?_ ?_ (fun _ _ => rfl)
  · rintro ⟨q, r⟩ _
    have h := pixel_back (2048 * q.val + r.val) (by omega)
    refine Prod.ext (Fin.ext ?_) (Fin.ext ?_) <;> simp only [rowOf, colOf, h] <;> omega
  · rintro ⟨y, x⟩ _
    obtain ⟨h1, h2, h3⟩ := pixel_parts (2 * (y.val % 2) + x.val % 2) (y.val / 2) (x.val / 2) (by omega) (by omega)
    refine Prod.ext (Fin.ext ?_) (Fin.ext ?_) <;> simp only [rowOf, colOf, Nat.div_add_mod, h1, h2, h3] <;> omega

end Cert.Spec

end

end
-- ==== Proof.Kern1.lean ====
/- What the kernel's first two normalised layers are, in the plain order of rows and columns. -/
module

public import proofs.«01_k».proof.Proof.Reg2
public import proofs.«01_k».proof.Proof.Host0
public import proofs.«01_k».proof.Proof.Norm
public import proofs.«01_k».proof.Proof.Pixels

@[expose] public section

noncomputable section

namespace Cert.KernelIdeal.Gen
open Idealize.ShloMosaic Idealize.ShloMosaic.TcCoe Idealize.ShloMosaic.Tactic Idealize.SL.Sem
open Cert.Spec

set_option maxRecDepth 16384

/-- A parity's products at a pixel are the transposed convolution at the pixel of the doubled image. -/
theorem phase_deconv (x : S2x640x48x64.Idx → EReal) (w : S640x640x4x4.Idx → EReal) (X : S2x50x66x640.Idx → EReal) (Wk : S4x2560x640.Idx → EReal)
    (hX : ∀ b r s i, X (ix4 b r s i) = xpad x b i r.val s.val)
    (hW : ∀ p k o, Wk (ix3 p k o) = w (ix4 ⟨k.val % 640, Nat.mod_lt _ (by decide)⟩ o ⟨3 - p.val / 2 - 2 * (k.val / 640 / 2), by omega⟩ ⟨3 - p.val % 2 - 2 * (k.val / 640 % 2), by omega⟩))
    (b : Fin 2) (p : Fin 4) (y : Fin 48) (x' : Fin 64) (o : Fin 640) :
    phase X Wk b p y x' o = deconv x w b o ⟨2 * y.val + p.val / 2, by omega⟩ ⟨2 * x'.val + p.val % 2, by omega⟩ := by
  unfold phase deconv
  simp only [hX, hW]
  refine (Fin.sum_divmod_fin (A := 4) (S := 640) (N := 2560) (f := fun (q : Fin 4) (i : Fin 640) => xpad x b i (y.val + p.val / 2 + q.val / 2) (x'.val + p.val % 2 + q.val % 2)
        * w (ix4 i o ⟨3 - p.val / 2 - 2 * (q.val / 2), by omega⟩ ⟨3 - p.val % 2 - 2 * (q.val % 2), by omega⟩))).trans ?_
  have h1 : (2 * y.val + p.val / 2) / 2 = y.val := by omega
  have h2 : (2 * x'.val + p.val % 2) / 2 = x'.val := by omega
  have h3 : (2 * y.val + p.val / 2) % 2 = p.val / 2 := by omega
  have h4 : (2 * x'.val + p.val % 2) % 2 = p.val % 2 := by omega
  simp only [h1, h2, h3, h4]

theorem inv_npix : Named.named (F := Ideal) κ (φ := .f32) "inv_npix" 0x38AAAAAB#32 = ((1 / 12288 : ℝ) : EReal) :=
  IdealRules.named_const.ideal_named_scalar _ _ _ _ rfl

/-- A layer over an array in the kernel's pixel order, its tile statistics adding up to the channel's sums, is the plain layer. -/
theorem layer_conv {n k : ℕ} {H : S2x12288x640.Idx → EReal} {St : (⟨4, ![2, k, 2, 640]⟩ : Shape).Idx → EReal}
    {W : (⟨2, ![640, n]⟩ : Shape).Idx → EReal} {B : (⟨2, ![1, n]⟩ : Shape).Idx → EReal}
    {g : Fin 2 → Fin 640 → Fin 96 → Fin 128 → EReal} {Wf : Fin n → Fin 640 → EReal} {Bf : Fin n → EReal}
    (hH : ∀ b m i, H (ix3 b m i) = g b i (rowOf m) (colOf m))
    (h0 : ∀ b i, ∑ q : Fin k, St (ix4 b q 0 i) = ∑ y, ∑ x, g b i y x) (h1 : ∀ b i, ∑ q : Fin k, St (ix4 b q 1 i) = ∑ y, ∑ x, g b i y x * g b i y x)
    (hg : ∀ b i y x, IsReal (g b i y x)) (hW : ∀ x o, W (ix2 x o) = Wf o x) (hB : ∀ o, B (ix2 0 o) = Bf o) (b : Fin 2) (m : Fin 12288) (o : Fin n) :
    layer H St W B b m o = conv (g b) Wf Bf o (rowOf m) (colOf m) := by
  unfold layer conv
  rw [hB]
  refine congrArg (· + Bf o) (Finset.sum_congr rfl fun i _ => ?_)
  rw [hH, h0, h1, hW, mul_comm]
  refine congrArg (Wf o i * ·) ?_
  show silu (nz _ _ _) = silu _
  refine congrArg silu ?_
  exact inorm_of_sums (hg b i) (rowOf m) (colOf m) _ inv_npix

/-- The first call's statistics add up to the channel's sum. -/
theorem stat0_sum (x : S2x640x48x64.Idx → EReal) (w : S640x640x4x4.Idx → EReal) (X : S2x50x66x640.Idx → EReal) (Wk : S4x2560x640.Idx → EReal)
    (hp : ∀ b p y x' o, phase X Wk b p y x' o = deconv x w b o ⟨2 * y.val + p.val / 2, by omega⟩ ⟨2 * x'.val + p.val % 2, by omega⟩) (b : Fin 2) (o : Fin 640) :
    ∑ q : Fin 12, stat0 X Wk (ix4 b q 0 o) = ∑ y, ∑ x', deconv x w b o y x' := by
  refine Eq.trans (Finset.sum_congr rfl fun q _ => ?_) (sum_planes fun y x' => deconv x w b o y x')
  show tsum (fun p y x' => phase X Wk b p y x' o) q = _
  unfold tsum
  simp only [hp]

/-- The first call's statistics add up to the channel's sum of squares. -/
theorem stat0_sumsq (x : S2x640x48x64.Idx → EReal) (w : S640x640x4x4.Idx → EReal) (X : S2x50x66x640.Idx → EReal) (Wk : S4x2560x640.Idx → EReal)
    (hp : ∀ b p y x' o, phase X Wk b p y x' o = deconv x w b o ⟨2 * y.val + p.val / 2, by omega⟩ ⟨2 * x'.val + p.val % 2, by omega⟩) (b : Fin 2) (o : Fin 640) :
    ∑ q : Fin 12, stat0 X Wk (ix4 b q 1 o) = ∑ y, ∑ x', deconv x w b o y x' * deconv x w b o y x' := by
  refine Eq.trans (Finset.sum_congr rfl fun q _ => ?_) (sum_planes fun y x' => deconv x w b o y x' * deconv x w b o y x')
  show tsum (fun p y x' => phase X Wk b p y x' o * phase X Wk b p y x' o) q = _
  unfold tsum
  simp only [hp]

/-- The second call's statistics add up to the channel's sum. -/
theorem stat1_sum {H : S2x12288x640.Idx → EReal} {g : Fin 2 → Fin 640 → Fin 96 → Fin 128 → EReal} (hH : ∀ b m i, H (ix3 b m i) = g b i (rowOf m) (colOf m))
    (b : Fin 2) (o : Fin 640) : ∑ q : Fin 6, stat1 H (ix4 b q 0 o) = ∑ y, ∑ x, g b o y x := by
  refine Eq.trans (Finset.sum_congr rfl fun q _ => ?_) (sum_tiles fun y x => g b o y x)
  show ∑ r : Fin 2048, H (ix3 b ⟨2048 * q.val + r.val, by omega⟩ o) = _
  simp only [hH]

/-- The second call's statistics add up to the channel's sum of squares. -/
theorem stat1_sumsq {H : S2x12288x640.Idx → EReal} {g : Fin 2 → Fin 640 → Fin 96 → Fin 128 → EReal} (hH : ∀ b m i, H (ix3 b m i) = g b i (rowOf m) (colOf m))
    (b : Fin 2) (o : Fin 640) : ∑ q : Fin 6, stat1 H (ix4 b q 1 o) = ∑ y, ∑ x, g b o y x * g b o y x := by
  refine Eq.trans (Finset.sum_congr rfl fun q _ => ?_) (sum_tiles fun y x => g b o y x * g b o y x)
  show ∑ r : Fin 2048, H (ix3 b ⟨2048 * q.val + r.val, by omega⟩ o) * H (ix3 b ⟨2048 * q.val + r.val, by omega⟩ o) = _
  simp only [hH]

end Cert.KernelIdeal.Gen

end

end
-- ==== Proof.Host1.lean ====
/- The host reshapes and transposes between the calls, entry by entry. -/
module

public import proofs.«01_k».proof.Proof.IdealRun
public import proofs.«01_k».proof.Proof.Pixels

@[expose] public section

noncomputable section

namespace Cert.KernelIdeal.Gen
open Idealize.ShloMosaic Idealize.ShloMosaic.TcCoe Idealize.ShloMosaic.Tactic Idealize.SL.Sem
open StableHlo Cert.Spec

set_option maxRecDepth 16384
variable (m : (ℓ : Loc nD τ sig) → Buf (Elt Ideal) ℓ) (ρ : Dev nD → PrngReg)

theorem v44_at (c : Dev nD) (b : Fin 2) (p : Fin 12288) (o : Fin 640) :
    (V5 m ρ c main_v44 : S2x12288x640.Idx → EReal) (ix3 b p o)
      = (W4 m ρ c (Proc.devRef .tc main_v43_0) : S2x4x48x64x640.Idx → EReal) (ix5 b ⟨p.val / 3072, by omega⟩ ⟨p.val / 64 % 48, by omega⟩ ⟨p.val % 64, by omega⟩ o) := by
  unfold V5 W5
  after_results
  generalize (W4 m ρ c (Proc.devRef .tc main_v43_0)) = A
  pointwise []

theorem v46_at (c : Dev nD) (k o : Fin 640) :
    (V5 m ρ c main_v46 : S640x640.Idx → EReal) (ix2 k o) = (m ((c : Thread nD τ).loc main_arg2) : S640x640x1x1.Idx → EReal) (ix4 o k 0 0) := by
  rw [← W4_args m ρ c main_arg2 (by decide)]
  unfold V5 W5
  after_results
  generalize (W4 m ρ c (Proc.devRef .tc main_arg2)) = A
  pointwise []

theorem v47_at (c : Dev nD) (o : Fin 640) :
    (V5 m ρ c main_v47 : S1x640.Idx → EReal) (ix2 0 o) = (m ((c : Thread nD τ).loc main_arg3) : S640.Idx → EReal) (ix1 o) := by
  rw [← W4_args m ρ c main_arg3 (by decide)]
  unfold V5 W5
  after_results
  generalize (W4 m ρ c (Proc.devRef .tc main_arg3)) = A
  pointwise []

theorem v50_at (c : Dev nD) (k : Fin 640) (o : Fin 133) :
    (V7 m ρ c main_v50 : S640x133.Idx → EReal) (ix2 k o) = (m ((c : Thread nD τ).loc main_arg4) : S133x640x1x1.Idx → EReal) (ix4 o k 0 0) := by
  rw [← W6_args m ρ c main_arg4 (by decide)]
  unfold V7 W7
  after_results
  generalize (W6 m ρ c (Proc.devRef .tc main_arg4)) = A
  pointwise []

theorem v51_at (c : Dev nD) (o : Fin 133) :
    (V7 m ρ c main_v51 : S1x133.Idx → EReal) (ix2 0 o) = (m ((c : Thread nD τ).loc main_arg5) : S133.Idx → EReal) (ix1 o) := by
  rw [← W6_args m ρ c main_arg5 (by decide)]
  unfold V7 W7
  after_results
  generalize (W6 m ρ c (Proc.devRef .tc main_arg5)) = A
  pointwise []

/-- The heatmaps: the last layer's pixels put back into rows and columns. -/
theorem v55_at (c : Dev nD) (n : Fin 266) (y : Fin 96) (x : Fin 128) :
    (V9 m ρ c main_v55 : S266x96x128.Idx → EReal) (ix3 n y x)
      = (W8 m ρ c (Proc.devRef .tc main_v52_0) : S2x12288x133.Idx → EReal)
          (ix3 ⟨n.val / 133, by omega⟩ ⟨y.val % 2 * 6144 + x.val % 2 * 3072 + y.val / 2 * 64 + x.val / 2, by omega⟩ ⟨n.val % 133, by omega⟩) := by
  unfold V9 W9
  after_results
  generalize (W8 m ρ c (Proc.devRef .tc main_v52_0)) = A
  pointwise []

theorem v57_at (c : Dev nD) (b : Fin 2) (k : Fin 133) (s : Fin 2) :
    (W11 m ρ c (Proc.devRef .tc main_v57) : S2x133x2.Idx → EReal) (ix3 b k s)
      = (W10 m ρ c (Proc.devRef .tc main_v56_0) : S14x19x2.Idx → EReal) (ix3 ⟨b.val * 7 + k.val / 19, by omega⟩ ⟨k.val % 19, by omega⟩ s) := by
  unfold W11
  after_results
  generalize (W10 m ρ c (Proc.devRef .tc main_v56_0)) = A
  pointwise []

theorem v58_at (c : Dev nD) (b : Fin 2) (k : Fin 133) :
    (W11 m ρ c (Proc.devRef .tc main_v58) : S2x133.Idx → EReal) (ix2 b k)
      = (W10 m ρ c (Proc.devRef .tc main_v56_1) : S14x19x1.Idx → EReal) (ix3 ⟨b.val * 7 + k.val / 19, by omega⟩ ⟨k.val % 19, by omega⟩ 0) := by
  unfold W11
  after_results
  generalize (W10 m ρ c (Proc.devRef .tc main_v56_1)) = A
  pointwise []

end Cert.KernelIdeal.Gen

end

end
-- ==== Proof.Kern2.lean ====
/- The kernel's heatmaps: its three calls, one after the other, are the plain layers. -/
module

public import proofs.«01_k».proof.Proof.Kern1
public import proofs.«01_k».proof.Proof.Host1

@[expose] public section

noncomputable section

namespace Cert.KernelIdeal.Gen
open Idealize.ShloMosaic Idealize.ShloMosaic.TcCoe Idealize.ShloMosaic.Tactic Idealize.SL.Sem
open Cert.Spec

set_option maxRecDepth 16384
variable (m : (ℓ : Loc nD τ sig) → Buf (Elt Ideal) ℓ) (ρ : Dev nD → PrngReg) (c : Dev nD)

abbrev x0 : S2x640x48x64.Idx → EReal := m ((c : Thread nD τ).loc main_arg0)
abbrev x1 : S640x640x4x4.Idx → EReal := m ((c : Thread nD τ).loc main_arg1)
abbrev x2 : Fin 640 → Fin 640 → EReal := fun o i => (m ((c : Thread nD τ).loc main_arg2) : S640x640x1x1.Idx → EReal) (ix4 o i 0 0)
abbrev x3 : Fin 640 → EReal := fun o => (m ((c : Thread nD τ).loc main_arg3) : S640.Idx → EReal) (ix1 o)
abbrev x4 : Fin 133 → Fin 640 → EReal := fun o i => (m ((c : Thread nD τ).loc main_arg4) : S133x640x1x1.Idx → EReal) (ix4 o i 0 0)
abbrev x5 : Fin 133 → EReal := fun o => (m ((c : Thread nD τ).loc main_arg5) : S133.Idx → EReal) (ix1 o)

/-- The arguments that feed a normalisation are real. -/
structure Finite : Prop where
  h0 : ∀ j, IsReal (x0 m c j)
  h1 : ∀ j, IsReal (x1 m c j)
  h2 : ∀ o i, IsReal (x2 m c o i)
  h3 : ∀ o, IsReal (x3 m c o)

theorem xpad_real (h : Finite m c) (b : Fin 2) (i : Fin 640) (r s : ℕ) : IsReal (xpad (x0 m c) b i r s) := by
  unfold xpad
  split_ifs
  · exact h.h0 _
  · exact IsReal.zero

theorem deconv_real (h : Finite m c) (b : Fin 2) (o : Fin 640) (y : Fin 96) (x : Fin 128) : IsReal (deconv (x0 m c) (x1 m c) b o y x) :=
  IsReal.sum fun _ => IsReal.sum fun _ => IsReal.mul (xpad_real m c h _ _ _ _) (h.h1 _)

theorem phase_eq (b : Fin 2) (p : Fin 4) (y : Fin 48) (x' : Fin 64) (o : Fin 640) :
    phase (V3 m ρ c main_v1) (V3 m ρ c main_v42) b p y x' o = deconv (x0 m c) (x1 m c) b o ⟨2 * y.val + p.val / 2, by omega⟩ ⟨2 * x'.val + p.val % 2, by omega⟩ :=
  phase_deconv (x0 m c) (x1 m c) _ _ (v1_at m ρ c) (v42_at m ρ c) b p y x' o

/-- The second call's input: the transposed convolution in the kernel's pixel order. -/
theorem h1_at (b : Fin 2) (p : Fin 12288) (i : Fin 640) :
    (V5 m ρ c main_v44 : S2x12288x640.Idx → EReal) (ix3 b p i) = deconv (x0 m c) (x1 m c) b i (rowOf p) (colOf p) := by
  rw [v44_at, show W4 m ρ c (Proc.devRef .tc main_v43_0) = _ from W4_arr m ρ c 2, arr0_2]
  refine (phase_eq m ρ c _ _ _ _ _).trans ?_
  congr 1
  exact Fin.ext (by show 2 * (p.val / 64 % 48) + p.val / 3072 / 2 = 2 * (p.val % 3072 / 64) + p.val / 3072 / 2; omega)

theorem s1_eq : V5 m ρ c main_v43_1 = stat0 (V3 m ρ c main_v1) (V3 m ρ c main_v42) := by
  show W5 m ρ c (Proc.devRef .tc main_v43_1) = _
  rw [W5_of m ρ c main_v43_1 (by decide), show W4 m ρ c (Proc.devRef .tc main_v43_1) = _ from W4_arr m ρ c 3, arr0_3]

/-- The second call's output: the first layer. -/
theorem o1_at (h : Finite m c) (b : Fin 2) (p : Fin 12288) (o : Fin 640) :
    out1 (V5 m ρ c main_v44) (V5 m ρ c main_v43_1) (V5 m ρ c main_v46) (V5 m ρ c main_v47) (ix3 b p o)
      = conv (fun i => deconv (x0 m c) (x1 m c) b i) (x2 m c) (x3 m c) o (rowOf p) (colOf p) :=
  layer_conv (g := fun b i => deconv (x0 m c) (x1 m c) b i) (h1_at m ρ c)
    (fun b i => by rw [s1_eq]; exact stat0_sum _ _ _ _ (phase_eq m ρ c) b i) (fun b i => by rw [s1_eq]; exact stat0_sumsq _ _ _ _ (phase_eq m ρ c) b i)
    (fun b i y x => deconv_real m c h b i y x) (fun k o => v46_at m ρ c k o) (fun o => v47_at m ρ c o) b p o

theorem h2_eq : V7 m ρ c main_v48_0 = out1 (V5 m ρ c main_v44) (V5 m ρ c main_v43_1) (V5 m ρ c main_v46) (V5 m ρ c main_v47) := by
  show W7 m ρ c (Proc.devRef .tc main_v48_0) = _
  rw [W7_of m ρ c main_v48_0 (by decide), show W6 m ρ c (Proc.devRef .tc main_v48_0) = _ from W6_arr m ρ c 4, arr1_4]

theorem s2_eq : V7 m ρ c main_v48_1 = stat1 (V7 m ρ c main_v48_0) := by
  rw [h2_eq]
  show W7 m ρ c (Proc.devRef .tc main_v48_1) = _
  rw [W7_of m ρ c main_v48_1 (by decide), show W6 m ρ c (Proc.devRef .tc main_v48_1) = _ from W6_arr m ρ c 5, arr1_5]

theorem h2_at (h : Finite m c) (b : Fin 2) (p : Fin 12288) (i : Fin 640) :
    (V7 m ρ c main_v48_0 : S2x12288x640.Idx → EReal) (ix3 b p i) = conv (fun i => deconv (x0 m c) (x1 m c) b i) (x2 m c) (x3 m c) i (rowOf p) (colOf p) := by
  rw [h2_eq]
  exact o1_at m ρ c h b p i

/-- The third call's output: the heatmaps, in the kernel's pixel order. -/
theorem o2_at (h : Finite m c) (b : Fin 2) (p : Fin 12288) (o : Fin 133) :
    out2 (V7 m ρ c main_v48_0) (V7 m ρ c main_v48_1) (V7 m ρ c main_v50) (V7 m ρ c main_v51) (ix3 b p o)
      = conv (fun i => conv (fun i => deconv (x0 m c) (x1 m c) b i) (x2 m c) (x3 m c) i) (x4 m c) (x5 m c) o (rowOf p) (colOf p) :=
  layer_conv (g := fun b i => conv (fun i => deconv (x0 m c) (x1 m c) b i) (x2 m c) (x3 m c) i) (h2_at m ρ c h)
    (fun b i => by rw [s2_eq]; exact stat1_sum (h2_at m ρ c h) b i) (fun b i => by rw [s2_eq]; exact stat1_sumsq (h2_at m ρ c h) b i)
    (fun b i y x => conv_real (fun i y x => deconv_real m c h b i y x) h.h2 h.h3 i y x) (fun k o => v50_at m ρ c k o) (fun o => v51_at m ρ c o) b p o

/-- The last call's input: the heatmaps, by rows and columns. -/
theorem hm_at (h : Finite m c) (n : Fin 266) (y : Fin 96) (x : Fin 128) :
    (V9 m ρ c main_v55 : S266x96x128.Idx → EReal) (ix3 n y x)
      = conv (fun i => conv (fun i => deconv (x0 m c) (x1 m c) ⟨n.val / 133, by omega⟩ i) (x2 m c) (x3 m c) i) (x4 m c) (x5 m c) ⟨n.val % 133, by omega⟩ y x := by
  rw [v55_at, show W8 m ρ c (Proc.devRef .tc main_v52_0) = _ from W8_arr m ρ c 4, arr2_4]
  refine (o2_at m ρ c h _ _ _).trans ?_
  obtain ⟨h1, h2, h3⟩ := pixel_parts (2 * (y.val % 2) + x.val % 2) (y.val / 2) (x.val / 2) (by omega) (by omega)
  have e : y.val % 2 * 6144 + x.val % 2 * 3072 + y.val / 2 * 64 + x.val / 2 = (2 * (y.val % 2) + x.val % 2) * 3072 + y.val / 2 * 64 + x.val / 2 := by omega
  congr 1 <;> refine Fin.ext ?_ <;> simp only [rowOf, colOf, e, h1, h2, h3] <;> omega

end Cert.KernelIdeal.Gen

end

end
-- ==== Proof.Pre.lean ====
/- What the precondition says: the arguments that feed a normalisation are real numbers. -/
module

public import proofs.«01_k».proof.Defs
public import proofs.«01_k».proof.Proof.Gen.Pre_finite
public import proofs.«01_k».proof.Proof.Kern2
public import Idealize.ShloMosaic.Lib.ReduceAll

@[expose] public section

noncomputable section

namespace Cert.Proof
open Idealize.ShloMosaic Idealize.SL.Sem Cert.Spec

set_option maxRecDepth 16384

/-- A value whose absolute value compares below infinity is real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    IsReal x := by
  have htop : (FloatOps.ofBits (F := Ideal) .f32 0x7F800000#32 : EReal) = ⊤ := by
    show Ideal.ofBits .f32 0x7F800000#32 = ⊤
    simp [Ideal.ofBits, Ideal.ieee]
  rw [htop] at h
  induction x using EReal.rec with
  | coe r => exact ⟨r, rfl⟩
  | bot => exfalso; revert h; simp [FloatOps.cmpf, FloatOps.hostAbsf, Ideal.cmp]
  | top => exfalso; revert h; simp [FloatOps.cmpf, FloatOps.hostAbsf, Ideal.cmp]

/-- One conjunct of the precondition, for an array of any shape. -/
theorem all_real {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (e : Host.reduce IntOp.andi (cmpf .olt (Host.absf x) (broadcastInDim s ![] hb (constant (F := Ideal) Cert.Pre_finite.S_ .f32 0x7F800000#32)))
      (constantI Cert.Pre_finite.S_ 1 1#1) hr hu j = 1#1) (i : s.Idx) : IsReal (x i) := by
  haveI : Subsingleton Cert.Pre_finite.S_.Idx := ⟨fun a b => funext fun k => k.elim0⟩
  exact real_of_lt (x i) (Host.reduce_andi_all _ _ hr hu j e i)

/-- The precondition makes the arguments that feed a normalisation real. -/
theorem finite_of_pre (m : (ℓ : Loc Cert.KernelIdeal.nD Cert.KernelIdeal.τ Cert.KernelIdeal.sig) → Buf (Elt Ideal) ℓ) (h : Cert.Pre_KernelIdeal_finite m)
    (c : Dev Cert.KernelIdeal.nD) : Cert.KernelIdeal.Gen.Finite m c := by
  have e := congrFun (h c) (fun k => k.elim0)
  unfold Cert.Pre_finite.fn Cert.Pre_finite.fn_part1 at e
  obtain ⟨e, e3⟩ := IntOp.andi_eq_one.1 e
  obtain ⟨e, e2⟩ := IntOp.andi_eq_one.1 e
  obtain ⟨e0, e1⟩ := IntOp.andi_eq_one.1 e
  exact ⟨fun j => all_real _ _ _ _ _ e0 j, fun j => all_real _ _ _ _ _ e1 j, fun o i => all_real _ _ _ _ _ e2 _, fun o => all_real _ _ _ _ _ e3 _⟩

end Cert.Proof

end

end
-- ==== Proof.Post.lean ====
/- What the last stage computes of one heatmap: its largest logit, where that is first attained, the logarithm of the
   blurred and rescaled map near that place, and one Newton step from there. -/
module

public import Idealize.ShloMosaic.PureOps.Ideal
public import Idealize.ShloMosaic.PureOps.Float
public import Idealize.ShloMosaic.PureOps.Reduce

@[expose] public section

noncomputable section

namespace Cert.Spec
open Idealize.ShloMosaic

set_option maxRecDepth 16384

/-! ## The largest entry and its place -/

/-- The largest entry of a map. -/
def top (h : Fin 96 → Fin 128 → EReal) : EReal := Finset.univ.sup fun p : Fin 96 × Fin 128 => h p.1 p.2

theorem le_top (h : Fin 96 → Fin 128 → EReal) (y : Fin 96) (x : Fin 128) : h y x ≤ top h :=
  Finset.le_sup (f := fun p : Fin 96 × Fin 128 => h p.1 p.2) (Finset.mem_univ (y, x))

theorem has_top (h : Fin 96 → Fin 128 → EReal) : ∃ p : Fin 96 × Fin 128, h p.1 p.2 = top h := by
  obtain ⟨p, -, hp⟩ := Finset.exists_mem_eq_sup Finset.univ ⟨(0, 0), Finset.mem_univ _⟩ fun p : Fin 96 × Fin 128 => h p.1 p.2
  exact ⟨p, hp.symm⟩

theorem neg_inf : Ideal.ofBits .f32 4286578688#32 = ⊥ := by simp [Ideal.ofBits, Ideal.ieee]

/-- A maximum over entries of a map, all of them bounded by its largest and one of them equal to it. -/
theorem fold_top {ι : Type} (s : Finset ι) (f : ι → EReal) (h : Fin 96 → Fin 128 → EReal)
    (hle : ∀ i ∈ s, f i ≤ top h) (hge : ∃ i ∈ s, f i = top h) :
    s.fold max (Ideal.ofBits .f32 4286578688#32) f = top h := by
  refine le_antisymm (Finset.fold_max_le _ |>.2 ⟨by rw [neg_inf]; exact bot_le, hle⟩) (Finset.le_fold_max _ |>.2 (Or.inr ?_))
  obtain ⟨i, hi, e⟩ := hge
  exact ⟨i, hi, e.ge⟩

/-- A place counted along the rows. -/
def flat (p : Fin 96 × Fin 128) : ℕ := 128 * p.1.val + p.2.val

theorem flat_lt (p : Fin 96 × Fin 128) : flat p < 12288 := by
  have h1 := p.1.isLt; have h2 := p.2.isLt; unfold flat; omega

theorem has_first (h : Fin 96 → Fin 128 → EReal) :
    ∃ p : Fin 96 × Fin 128, h p.1 p.2 = top h ∧ ∀ q : Fin 96 × Fin 128, h q.1 q.2 = top h → flat p ≤ flat q := by
  obtain ⟨p, hp, hm⟩ := Finset.exists_min_image (Finset.univ.filter fun q : Fin 96 × Fin 128 => h q.1 q.2 = top h) flat
    (by obtain ⟨p, hp⟩ := has_top h; exact ⟨p, Finset.mem_filter.2 ⟨Finset.mem_univ _, hp⟩⟩)
  exact ⟨p, (Finset.mem_filter.1 hp).2, fun q hq => hm q (Finset.mem_filter.2 ⟨Finset.mem_univ _, hq⟩)⟩

/-- The first place, along the rows, of the largest entry. -/
def place (h : Fin 96 → Fin 128 → EReal) : Fin 96 × Fin 128 := Classical.choose (has_first h)

theorem place_top (h : Fin 96 → Fin 128 → EReal) : h (place h).1 (place h).2 = top h := (Classical.choose_spec (has_first h)).1
theorem place_le (h : Fin 96 → Fin 128 → EReal) (q : Fin 96 × Fin 128) (hq : h q.1 q.2 = top h) : flat (place h) ≤ flat q :=
  (Classical.choose_spec (has_first h)).2 q hq

theorem minsi_toInt (a b : BitVec 32) : (IntOp.minsi a b).toInt = min a.toInt b.toInt := by
  unfold IntOp.minsi
  by_cases h : a.toInt < b.toInt
  · rw [if_pos (by rw [BitVec.slt_iff_toInt_lt]; exact h), min_eq_left h.le]
  · rw [if_neg (by rw [BitVec.slt_iff_toInt_lt]; exact h), min_eq_right (not_lt.1 h)]

/-- A signed minimum is a word below all the words that is one of them. -/
theorem fold_min {ι : Type} (s : Finset ι) (f : ι → BitVec 32) (b w : BitVec 32) (hb : w.toInt ≤ b.toInt)
    (hle : ∀ i ∈ s, w.toInt ≤ (f i).toInt) (hge : ∃ i ∈ s, f i = w) : s.fold IntOp.minsi b f = w := by
  classical
  have key : (∀ i ∈ s, w.toInt ≤ (f i).toInt) → w.toInt ≤ (s.fold IntOp.minsi b f).toInt
      ∧ ∀ i ∈ s, (s.fold IntOp.minsi b f).toInt ≤ (f i).toInt := by
    clear hge hle
    induction s using Finset.induction_on with
    | empty => intro _; exact ⟨by rw [Finset.fold_empty]; exact hb, fun i hi => absurd hi (Finset.notMem_empty i)⟩
    | insert a s ha ih =>
      intro hle
      obtain ⟨h1, h2⟩ := ih fun i hi => hle i (Finset.mem_insert_of_mem hi)
      rw [Finset.fold_insert ha, minsi_toInt]
      refine ⟨le_min (hle a (Finset.mem_insert_self a s)) h1, fun i hi => ?_⟩
      rcases Finset.mem_insert.1 hi with rfl | hi
      · exact min_le_left _ _
      · exact (min_le_right _ _).trans (h2 i hi)
  obtain ⟨i, hi, e⟩ := hge
  obtain ⟨h1, h2⟩ := key hle
  refine BitVec.eq_of_toInt_eq (le_antisymm ?_ h1)
  rw [← e]; exact h2 i hi

theorem toInt_small (n : ℕ) (h : n < 32768) : (BitVec.ofNat 32 n).toInt = n := by
  rw [BitVec.toInt_eq_toNat_of_lt] <;> rw [BitVec.toNat_ofNat, Nat.mod_eq_of_lt (by omega)]; omega

/-- The smallest word among the places of the largest entry, every other place giving a word past the map's end. -/
theorem fold_place {ι : Type} (s : Finset ι) (v : ι → EReal) (p : ι → Fin 96 × Fin 128) (e : ℕ) (he : 12288 ≤ e) (he' : e < 32768)
    (h : Fin 96 → Fin 128 → EReal) (hv : ∀ i ∈ s, v i = h (p i).1 (p i).2) (hs : ∀ q, ∃ i ∈ s, p i = q)
    (f : ι → BitVec 32) (hf : ∀ i ∈ s, f i = if v i = top h then BitVec.ofNat 32 (flat (p i)) else BitVec.ofNat 32 e) :
    s.fold IntOp.minsi 2147483647#32 f = BitVec.ofNat 32 (flat (place h)) := by
  have hl := flat_lt (place h)
  refine fold_min s f _ _ ?_ (fun i hi => ?_) ?_
  · rw [toInt_small _ (by omega)]
    have : (2147483647#32 : BitVec 32).toInt = 2147483647 := by decide
    omega
  · rw [hf i hi, toInt_small _ (by omega)]
    split_ifs with ht
    · rw [toInt_small _ (by have := flat_lt (p i); omega)]
      exact_mod_cast place_le h (p i) ((hv i hi).symm.trans ht)
    · rw [toInt_small _ he']; omega
  · obtain ⟨i, hi, e⟩ := hs (place h)
    refine ⟨i, hi, ?_⟩
    rw [hf i hi, if_pos (by rw [hv i hi, e]; exact place_top h), e]

/-! ## The blur -/

/-- The word of the blur's tap `j`, zero past the seventeenth. -/
def tapWord (j : ℕ) : BitVec 32 :=
  [0x388C5569#32, 0x39E4C5C6#32, 0x3B1139B1#32, 0x3C0F9828#32, 0x3CDD26A1#32, 0x3D84A0DC#32, 0x3DF7C84A#32, 0x3E3442B8#32,
    0x3E4C4315#32, 0x3E3442B8#32, 0x3DF7C84A#32, 0x3D84A0DC#32, 0x3CDD26A1#32, 0x3C0F9828#32, 0x3B1139B1#32, 0x39E4C5C6#32,
    0x388C5569#32].getD j 0#32

/-- Tap `j`. -/
def gtap (j : ℕ) : EReal := Ideal.ofBits .f32 (tapWord j)

/-- The word of the blur matrix's entry in row `y` and column `a`: the tap at their distance, zero off the band. -/
def bandWord (y a : ℕ) : BitVec 32 := if y ≤ a + 8 then tapWord (a + 8 - y) else 0#32

theorem zero_word : Ideal.ofBits .f32 0#32 = (0 : EReal) := by simp [Ideal.ofBits, Ideal.ieee]

/-- A line of the blur matrix against a line of the map is the seventeen taps against that line, zero outside it. -/
theorem band_sum {N : ℕ} (f : Fin N → EReal) (y : ℕ) :
    ∑ a : Fin N, Ideal.ofBits .f32 (bandWord y a.val) * f a
      = ∑ j : Fin 17, gtap j.val * (if h : 8 ≤ y + j.val ∧ y + j.val - 8 < N then f ⟨y + j.val - 8, h.2⟩ else 0) := by
  have L : ∀ a : Fin N, Ideal.ofBits .f32 (bandWord y a.val) * f a
      = ∑ j : Fin 17, if y + j.val = a.val + 8 then gtap j.val * f a else 0 := by
    intro a
    by_cases h : y ≤ a.val + 8 ∧ a.val + 8 - y < 17
    · rw [Finset.sum_eq_single (⟨a.val + 8 - y, h.2⟩ : Fin 17)]
      · rw [if_pos (by simp only; omega)]
        unfold bandWord gtap; rw [if_pos h.1]
      · intro j _ hj
        rw [if_neg]; intro e; exact hj (Fin.ext (by simp only; omega))
      · intro hh; exact absurd (Finset.mem_univ _) hh
    · rw [Finset.sum_eq_zero fun j _ => if_neg (by have := j.isLt; omega)]
      have : bandWord y a.val = 0#32 := by
        unfold bandWord
        split_ifs with h1
        · unfold tapWord; rw [List.getD_eq_getElem?_getD, List.getElem?_eq_none (by simp only [List.length_cons, List.length_nil]; omega)]; rfl
        · rfl
      rw [this, zero_word, zero_mul]
  have R : ∀ j : Fin 17, gtap j.val * (if h : 8 ≤ y + j.val ∧ y + j.val - 8 < N then f ⟨y + j.val - 8, h.2⟩ else 0)
      = ∑ a : Fin N, if y + j.val = a.val + 8 then gtap j.val * f a else 0 := by
    intro j
    by_cases h : 8 ≤ y + j.val ∧ y + j.val - 8 < N
    · rw [dif_pos h, Finset.sum_eq_single (⟨y + j.val - 8, h.2⟩ : Fin N)]
      · rw [if_pos (by simp only; omega)]
      · intro a _ ha
        rw [if_neg]; intro e; exact ha (Fin.ext (by simp only; omega))
      · intro hh; exact absurd (Finset.mem_univ _) hh
    · rw [dif_neg h, mul_zero, Finset.sum_eq_zero fun a _ => if_neg (by have := a.isLt; omega)]
  simp only [L, R]
  exact Finset.sum_comm

/-- The map with eight zeros round it. -/
def around (h : Fin 96 → Fin 128 → EReal) (r s : ℕ) : EReal :=
  if hh : (8 ≤ r ∧ r - 8 < 96) ∧ 8 ≤ s ∧ s - 8 < 128 then h ⟨r - 8, hh.1.2⟩ ⟨s - 8, hh.2.2⟩ else 0

/-- The blurred map: the taps along the columns, then along the rows. -/
def blur (h : Fin 96 → Fin 128 → EReal) (y : Fin 96) (x : Fin 128) : EReal :=
  ∑ k : Fin 17, gtap k.val * ∑ j : Fin 17, gtap j.val * around h (y.val + j.val) (x.val + k.val)

/-- The two matrix products are the blur. -/
theorem blur_products (h : Fin 96 → Fin 128 → EReal) (y : Fin 96) (x : Fin 128) :
    ∑ b : Fin 128, (∑ a : Fin 96, Ideal.ofBits .f32 (bandWord y.val a.val) * h a b) * Ideal.ofBits .f32 (bandWord x.val b.val)
      = blur h y x := by
  simp only [mul_comm _ (Ideal.ofBits .f32 (bandWord x.val _))]
  rw [band_sum]
  unfold blur
  refine Finset.sum_congr rfl fun k _ => congrArg (gtap k.val * ·) ?_
  split_ifs with hk
  · rw [band_sum]
    refine Finset.sum_congr rfl fun j _ => congrArg (gtap j.val * ·) ?_
    unfold around
    by_cases hj : 8 ≤ y.val + j.val ∧ y.val + j.val - 8 < 96
    · rw [dif_pos hj, dif_pos ⟨hj, hk⟩]
    · rw [dif_neg hj, dif_neg fun c => hj c.1]
  · refine (Finset.sum_eq_zero fun j _ => ?_).symm
    unfold around
    rw [dif_neg fun c => hk c.2, mul_zero]

/-! ## The logarithm of the rescaled map, and the step -/

/-- The logarithm of the blurred map, scaled back to the map's largest entry and clipped. -/
def logmap (h : Fin 96 → Fin 128 → EReal) (y : Fin 96) (x : Fin 128) : EReal :=
  Ideal.log (min (Ideal.ofBits .f32 1112014848#32) (max (Ideal.ofBits .f32 981668463#32)
    (if 0 < top (blur h) then blur h y x * Ideal.div (top h) (if 0 < top (blur h) then top (blur h) else 1) else blur h y x)))

/-- Position `p - 1 + d` moved into `0 … N - 1`. -/
def clip (N : ℕ) (p d : ℕ) : ℕ := min N (p + d - 1)

theorem clip_lt {N p d : ℕ} : clip N p d < N + 1 := by unfold clip; omega

/-- The logarithm at the neighbour of the largest entry `d - 1` rows down and `e - 1` columns right, the edge repeated. -/
def near (h : Fin 96 → Fin 128 → EReal) (d e : ℕ) : EReal :=
  logmap h ⟨clip 95 (place h).1.val d, clip_lt⟩ ⟨clip 127 (place h).2.val e, clip_lt⟩

/-- Half the mixed difference of the seven neighbours. -/
def mixed (i r l d u p q : EReal) : EReal :=
  Ideal.ofBits .f32 1056964608#32 * (p - r - d + Ideal.ofBits .f32 1073741824#32 * i - l - u + q)

/-- A second difference, kept off zero. -/
def second (i r l : EReal) : EReal := r - Ideal.ofBits .f32 1073741824#32 * i + l + Ideal.ofBits .f32 872415232#32

/-- Half a first difference. -/
def first (r l : EReal) : EReal := Ideal.ofBits .f32 1056964608#32 * (r - l)

/-- The determinant of the second differences. -/
def det (i r l d u p q : EReal) : EReal := second i r l * second i d u - mixed i r l d u p q * mixed i r l d u p q

/-- The step to the right and the step down. -/
def stepX (i r l d u p q : EReal) : EReal :=
  Ideal.div (second i d u * first r l - mixed i r l d u p q * first d u) (det i r l d u p q)
def stepY (i r l d u p q : EReal) : EReal :=
  Ideal.div (-mixed i r l d u p q * first r l + second i r l * first d u) (det i r l d u p q)

/-- The keypoint's two coordinates: the stepped place in the image's scale, or minus one where no logit is positive. -/
def keyX (t : EReal) (w : BitVec 32) (i r l d u p q : EReal) : EReal :=
  if t ≤ 0 then Ideal.ofBits .f32 3212836864#32
  else (FloatOps.sitofp (F := Ideal) .f32 w - stepX i r l d u p q) * Ideal.ofBits .f32 1082196658#32
def keyY (t : EReal) (w : BitVec 32) (i r l d u p q : EReal) : EReal :=
  if t ≤ 0 then Ideal.ofBits .f32 3212836864#32
  else (FloatOps.sitofp (F := Ideal) .f32 w - stepY i r l d u p q) * Ideal.ofBits .f32 1082179971#32

def keypointX (h : Fin 96 → Fin 128 → EReal) : EReal :=
  keyX (top h) (BitVec.ofNat 32 (place h).2.val) (near h 1 1) (near h 1 2) (near h 1 0) (near h 2 1) (near h 0 1) (near h 2 2) (near h 0 0)
def keypointY (h : Fin 96 → Fin 128 → EReal) : EReal :=
  keyY (top h) (BitVec.ofNat 32 (place h).1.val) (near h 1 1) (near h 1 2) (near h 1 0) (near h 2 1) (near h 0 1) (near h 2 2) (near h 0 0)

end Cert.Spec

end

end
-- ==== Proof.Reg3.lean ====
/- What the last call's body computes of one of its nineteen heatmaps. -/
module

public import proofs.«01_k».proof.Proof.Reg2
public import proofs.«01_k».proof.Proof.Post

@[expose] public section

noncomputable section

namespace Cert.KernelIdeal.Gen
open Idealize.ShloMosaic Idealize.ShloMosaic.TcCoe Idealize.ShloMosaic.Tactic Idealize.SL.Sem
open Cert.Spec

set_option maxRecDepth 16384

variable (x0 : S19x96x128.Idx → EReal) (x1 : S96x96.Idx → EReal) (x2 : S128x128.Idx → EReal)

/-- One of the nineteen heatmaps. -/
abbrev hmap (g : Fin 19) : Fin 96 → Fin 128 → EReal := fun y x => x0 (ix3 g y x)

/-- The two products of one heatmap with the blur matrices. -/
def product (g : Fin 19) (y : Fin 96) (x : Fin 128) : EReal :=
  ∑ b : Fin 128, (∑ a : Fin 96, x1 (ix2 y a) * x0 (ix3 g a b)) * x2 (ix2 b x)

theorem pay4_at (g : Fin 19) : k3_pay4 (F := Ideal) x0 (ix3 g 0 0) = top (hmap x0 g) := by
  pointwise [k3_pay4, k3_pay3]
  exact fold_top _ _ (hmap x0 g) (fun p _ => le_top (hmap x0 g) p.1 p.2)
    (by obtain ⟨p, hp⟩ := has_top (hmap x0 g); exact ⟨p, Finset.mem_univ _, hp⟩)

theorem ld3_0 : (View.ld (Val := Elt Ideal) (e' := .f32) x0 r3_0 : S19x96x128.Idx → EReal) = x0 := by
  funext i; rw [eq_ix3 i]; pointwise []

theorem pay53_at (g : Fin 19) : k3_pay53 (F := Ideal) x0 x1 x2 (ix3 g 0 0) = top (hmap x0 g) :=
  (congrFun (congrArg (fun v => k3_pay4 (F := Ideal) v) (ld3_0 x0)) (ix3 g 0 0)).trans (pay4_at x0 g)

theorem flat_word : ∀ y : Fin 96, ∀ x : Fin 128,
    IntOp.addi (IntOp.muli (BitVec.ofNat 32 y.val) 128#32) (BitVec.ofNat 32 x.val) = BitVec.ofNat 32 (flat (y, x)) := by
  intro y x
  show BitVec.ofNat 32 y.val * BitVec.ofNat 32 128 + BitVec.ofNat 32 x.val = _
  rw [← BitVec.ofNat_mul, ← BitVec.ofNat_add, Nat.mul_comm]; rfl

theorem pay5_at (g : Fin 19) : k3_pay5 (F := Ideal) x0 (ix3 g 0 0) = BitVec.ofNat 32 (flat (place (hmap x0 g))) := by
  pointwise [k3_pay5, k3_pay3]
  rw [pay4_at]
  exact fold_place Finset.univ (fun p : Fin 96 × Fin 128 => x0 (ix3 g p.1 p.2)) id 24576 (by decide) (by decide) (hmap x0 g)
    (fun _ _ => rfl) (fun q => ⟨q, Finset.mem_univ _, rfl⟩) _ (fun p _ => by rw [flat_word]; rfl)

theorem row_word : ∀ y : Fin 96, ∀ x : Fin 128,
    IntOp.shrui .vector (BitVec.ofNat 32 (flat (y, x))) 7#32 = BitVec.ofNat 32 y.val := by decide +kernel
theorem col_word : ∀ y : Fin 96, ∀ x : Fin 128,
    IntOp.andi (BitVec.ofNat 32 (flat (y, x))) 127#32 = BitVec.ofNat 32 x.val := by decide +kernel

theorem pay71_at (g : Fin 19) (y : Fin 96) (x : Fin 128) : k3_pay71 (F := Ideal) x0 x1 x2 (ix3 g y x) = product x0 x1 x2 g y x := by
  fin_cases g <;>
  · pointwise [k3_pay71, k3_pay23, k3_pay56, k3_pay57, k3_pay58, k3_pay59, k3_pay60, k3_pay61, k3_pay62, k3_pay63, k3_pay64, k3_pay65,
      k3_pay66, k3_pay67, k3_pay68, k3_pay69, k3_pay70, k3_pay52, k3_pay3, k3_pay8, k3_pay9, k3_pay10, k3_pay11, k3_pay12, k3_pay13,
      k3_pay14, k3_pay15, k3_pay16, k3_pay17, k3_pay18, k3_pay19, k3_pay20, k3_pay21, k3_pay22]
    rfl

theorem pay54_at (g : Fin 19) : k3_pay54 (F := Ideal) x0 x1 x2 (ix3 g 0 0) = BitVec.ofNat 32 (place (hmap x0 g)).1.val := by
  refine (congrFun (congrArg (fun v => k3_pay6 (F := Ideal) v) (ld3_0 x0)) (ix3 g 0 0)).trans ?_
  pointwise [k3_pay6]
  rw [pay5_at]; exact row_word _ _

theorem pay55_at (g : Fin 19) : k3_pay55 (F := Ideal) x0 x1 x2 (ix3 g 0 0) = BitVec.ofNat 32 (place (hmap x0 g)).2.val := by
  refine (congrFun (congrArg (fun v => k3_pay7 (F := Ideal) v) (ld3_0 x0)) (ix3 g 0 0)).trans ?_
  pointwise [k3_pay7]
  rw [pay5_at]; exact col_word _ _

/-! ## The picked neighbours -/

theorem word_eq {a b : ℕ} (ha : a < 4096) (hb : b < 4096) : BitVec.ofNat 32 a = BitVec.ofNat 32 b ↔ a = b := by
  constructor
  · intro e
    have := congrArg BitVec.toNat e
    rwa [BitVec.toNat_ofNat, BitVec.toNat_ofNat, Nat.mod_eq_of_lt (by omega), Nat.mod_eq_of_lt (by omega)] at this
  · rintro rfl; rfl

/-- A sum masked by two coordinates' equality with words is the entry at that place. -/
theorem picked {N M : ℕ} (hN : N < 4096) (hM : M < 4096) (f : Fin N → Fin M → EReal) (p q : BitVec 32) (a : Fin N) (b : Fin M)
    (hp : p = BitVec.ofNat 32 a.val) (hq : q = BitVec.ofNat 32 b.val) :
    ∑ y : Fin N, ∑ x : Fin M, Scalar.select (IntOp.andi (IntOp.cmpi .eq (BitVec.ofNat 32 y.val) p) (IntOp.cmpi .eq (BitVec.ofNat 32 x.val) q))
      (f y x) 0 = f a b := by
  have e : ∀ (y : Fin N) (x : Fin M), Scalar.select (IntOp.andi (IntOp.cmpi .eq (BitVec.ofNat 32 y.val) p) (IntOp.cmpi .eq (BitVec.ofNat 32 x.val) q))
      (f y x) 0 = if y = a ∧ x = b then f y x else 0 := by
    intro y x
    have hy : (BitVec.ofNat 32 y.val = BitVec.ofNat 32 a.val) ↔ y = a :=
      (word_eq (y.isLt.trans hN) (a.isLt.trans hN)).trans Fin.ext_iff.symm
    have hx : (BitVec.ofNat 32 x.val = BitVec.ofNat 32 b.val) ↔ x = b :=
      (word_eq (x.isLt.trans hM) (b.isLt.trans hM)).trans Fin.ext_iff.symm
    rw [hp, hq]
    unfold IntOp.andi IntOp.cmpi Scalar.select
    simp only [beq_eq_decide, hy, hx]
    by_cases h1 : y = a <;> by_cases h2 : x = b <;> simp [h1, h2]
  simp only [e]
  rw [Finset.sum_eq_single a]
  · rw [Finset.sum_eq_single b]
    · rw [if_pos ⟨rfl, rfl⟩]
    · intro x _ hx; rw [if_neg fun c => hx c.2]
    · intro hh; exact absurd (Finset.mem_univ _) hh
  · intro y _ hy
    exact Finset.sum_eq_zero fun x _ => if_neg fun c => hy c.1
  · intro hh; exact absurd (Finset.mem_univ _) hh

/-- The word added to a coordinate for its neighbour `d - 1` further on. -/
def offWord (d : Fin 3) : BitVec 32 := ![4294967295#32, 0#32, 1#32] d

theorem row_clip : ∀ y : Fin 96, ∀ d : Fin 3,
    IntOp.minsi 95#32 (IntOp.maxsi 0#32 (IntOp.addi (BitVec.ofNat 32 y.val) (offWord d))) = BitVec.ofNat 32 (clip 95 y.val d.val) := by decide +kernel
theorem col_clip : ∀ x : Fin 128, ∀ d : Fin 3,
    IntOp.minsi 127#32 (IntOp.maxsi 0#32 (IntOp.addi (BitVec.ofNat 32 x.val) (offWord d))) = BitVec.ofNat 32 (clip 127 x.val d.val) := by decide +kernel

section blurred
variable (h1 : ∀ y a : Fin 96, x1 (ix2 y a) = Ideal.ofBits .f32 (bandWord y.val a.val))
  (h2 : ∀ b x : Fin 128, x2 (ix2 b x) = Ideal.ofBits .f32 (bandWord x.val b.val))
include h1 h2

theorem product_blur (g : Fin 19) (y : Fin 96) (x : Fin 128) : product x0 x1 x2 g y x = blur (hmap x0 g) y x := by
  unfold product
  simp only [h1, h2]
  exact blur_products (hmap x0 g) y x

theorem pay72_at (g : Fin 19) : k3_pay72 (F := Ideal) x0 x1 x2 (ix3 g 0 0) = top (blur (hmap x0 g)) := by
  show k3_pay24 (F := Ideal) _ _ _ _ _ _ _ _ _ _ _ _ _ _ _ _ _ _ (ix3 g 0 0) = _
  pointwise [k3_pay24]
  have e : ∀ p : Fin 96 × Fin 128, k3_pay71 (F := Ideal) x0 x1 x2 (ix3 g p.1 p.2) = blur (hmap x0 g) p.1 p.2 := fun p =>
    (pay71_at x0 x1 x2 g p.1 p.2).trans (product_blur x0 x1 x2 h1 h2 g p.1 p.2)
  refine fold_top _ _ (blur (hmap x0 g)) (fun p _ => ?_) ?_
  · exact (e p).le.trans (le_top (blur (hmap x0 g)) p.1 p.2)
  · obtain ⟨p, hp⟩ := has_top (blur (hmap x0 g))
    exact ⟨p, Finset.mem_univ _, (e p).trans hp⟩

theorem pay73_at (g : Fin 19) : k3_pay73 (F := Ideal) x0 x1 x2 (ix3 g 0 0)
    = if 0 < top (blur (hmap x0 g)) then top (blur (hmap x0 g)) else 1 := by
  have e : k3_pay24 (F := Ideal) (k3_pay52 x0 x1 x2) (View.ld x1 r3_1) (View.ld x2 r3_2) (k3_pay56 x0 x1 x2) (k3_pay57 x0 x1 x2)
      (k3_pay58 x0 x1 x2) (k3_pay60 x0 x1 x2) (k3_pay61 x0 x1 x2) (k3_pay62 x0 x1 x2) (k3_pay63 x0 x1 x2) (k3_pay64 x0 x1 x2)
      (k3_pay65 x0 x1 x2) (k3_pay66 x0 x1 x2) (k3_pay67 x0 x1 x2) (k3_pay68 x0 x1 x2) (k3_pay69 x0 x1 x2) (k3_pay70 x0 x1 x2)
      (k3_pay59 x0 x1 x2) (ix3 g 0 0) = top (blur (hmap x0 g)) := pay72_at x0 x1 x2 h1 h2 g
  pointwise [k3_pay73, k3_pay25]
  rw [e]

theorem pay74_at (g : Fin 19) (y : Fin 96) (x : Fin 128) : k3_pay74 (F := Ideal) x0 x1 x2 (ix3 g y x) = logmap (hmap x0 g) y x := by
  pointwise [k3_pay74, k3_pay26]
  rw [pay53_at, pay72_at x0 x1 x2 h1 h2, pay73_at x0 x1 x2 h1 h2, pay71_at, product_blur x0 x1 x2 h1 h2]
  rfl

/-- A masked sum of the log map over the words of two clipped coordinates is the neighbour there. -/
theorem picked_near (g : Fin 19) (d e : Fin 3) (f : Fin 96 → Fin 128 → EReal) (hf : ∀ y x, f y x = k3_pay74 (F := Ideal) x0 x1 x2 (ix3 g y x)) :
    ∑ y : Fin 96, ∑ x : Fin 128, Scalar.select (IntOp.andi
        (IntOp.cmpi .eq (BitVec.ofNat 32 y.val) (IntOp.minsi 95#32 (IntOp.maxsi 0#32 (IntOp.addi (k3_pay54 (F := Ideal) x0 x1 x2 (ix3 g 0 0)) (offWord d)))))
        (IntOp.cmpi .eq (BitVec.ofNat 32 x.val) (IntOp.minsi 127#32 (IntOp.maxsi 0#32 (IntOp.addi (k3_pay55 (F := Ideal) x0 x1 x2 (ix3 g 0 0)) (offWord e))))))
      (f y x) 0 = near (hmap x0 g) d.val e.val := by
  rw [pay54_at, pay55_at, picked (by decide) (by decide) f _ _ ⟨_, clip_lt⟩ ⟨_, clip_lt⟩ (row_clip _ d) (col_clip _ e), hf,
    pay74_at x0 x1 x2 h1 h2]
  rfl

theorem pay75_at (g : Fin 19) : k3_pay75 (F := Ideal) x0 x1 x2 (ix3 g 0 0) = near (hmap x0 g) 1 1 := by
  pointwise [k3_pay75, k3_pay27, k3_pay50, k3_pay51]
  exact picked_near x0 x1 x2 h1 h2 g 1 1 _ fun _ _ => rfl
theorem pay76_at (g : Fin 19) : k3_pay76 (F := Ideal) x0 x1 x2 (ix3 g 0 0) = near (hmap x0 g) 1 2 := by
  pointwise [k3_pay76, k3_pay30, k3_pay28, k3_pay29, k3_pay50, k3_pay51]
  exact picked_near x0 x1 x2 h1 h2 g 1 2 _ fun _ _ => rfl
theorem pay77_at (g : Fin 19) : k3_pay77 (F := Ideal) x0 x1 x2 (ix3 g 0 0) = near (hmap x0 g) 1 0 := by
  pointwise [k3_pay77, k3_pay31, k3_pay50, k3_pay51]
  exact picked_near x0 x1 x2 h1 h2 g 1 0 _ fun _ _ => rfl
theorem pay78_at (g : Fin 19) : k3_pay78 (F := Ideal) x0 x1 x2 (ix3 g 0 0) = near (hmap x0 g) 2 1 := by
  pointwise [k3_pay78, k3_pay34, k3_pay32, k3_pay33, k3_pay50, k3_pay51]
  exact picked_near x0 x1 x2 h1 h2 g 2 1 _ fun _ _ => rfl
theorem pay79_at (g : Fin 19) : k3_pay79 (F := Ideal) x0 x1 x2 (ix3 g 0 0) = near (hmap x0 g) 0 1 := by
  pointwise [k3_pay79, k3_pay35, k3_pay50, k3_pay51]
  exact picked_near x0 x1 x2 h1 h2 g 0 1 _ fun _ _ => rfl
theorem pay80_at (g : Fin 19) : k3_pay80 (F := Ideal) x0 x1 x2 (ix3 g 0 0) = near (hmap x0 g) 2 2 := by
  pointwise [k3_pay80, k3_pay37, k3_pay36, k3_pay50, k3_pay51]
  exact picked_near x0 x1 x2 h1 h2 g 2 2 _ fun _ _ => rfl
theorem pay81_at (g : Fin 19) : k3_pay81 (F := Ideal) x0 x1 x2 (ix3 g 0 0) = near (hmap x0 g) 0 0 := by
  pointwise [k3_pay81, k3_pay38, k3_pay50, k3_pay51]
  exact picked_near x0 x1 x2 h1 h2 g 0 0 _ fun _ _ => rfl

end blurred

/-! ## The keypoint from the seven neighbours -/

theorem select_le (t a b : EReal) : Scalar.select (BitVec.ofBool (decide (t ≤ 0))) a b = if t ≤ 0 then a else b := by
  unfold Scalar.select
  by_cases h : t ≤ 0 <;> simp [h]

variable (v3 v160 v183 v206 v229 v252 v275 v298 : S19x1x1.Idx → EReal) (v18 v20 : S19x1x1.Idx → BitVec 32)

theorem keyX_at (g : Fin 19) : k3_pay49 (F := Ideal) v3 v20 v160 v183 v206 v229 v252 v275 v298 (k3_pay39 (F := Ideal) v183 v206)
      (k3_pay40 (F := Ideal) v229 v252) (k3_pay41 (F := Ideal)) (ix3 g 0 0)
    = keyX (v3 (ix3 g 0 0)) (v20 (ix3 g 0 0)) (v160 (ix3 g 0 0)) (v183 (ix3 g 0 0)) (v206 (ix3 g 0 0)) (v229 (ix3 g 0 0)) (v252 (ix3 g 0 0))
      (v275 (ix3 g 0 0)) (v298 (ix3 g 0 0)) := by
  pointwise [k3_pay49, k3_pay39, k3_pay40, k3_pay41, k3_pay42, k3_pay43, k3_pay44, k3_pay45, k3_pay46, k3_pay48]
  try rw [select_le]
  rfl

theorem keyY_at (g : Fin 19) : Scalar.select (k3_pay48 (F := Ideal) v3 (ix3 g 0 0)) (Ideal.ofBits .f32 3212836864#32)
      (k3_pay47 (F := Ideal) v18 v160 v183 v206 v229 v252 v275 v298 (k3_pay39 (F := Ideal) v183 v206)
      (k3_pay40 (F := Ideal) v229 v252) (k3_pay41 (F := Ideal)) (ix3 g 0 0))
    = keyY (v3 (ix3 g 0 0)) (v18 (ix3 g 0 0)) (v160 (ix3 g 0 0)) (v183 (ix3 g 0 0)) (v206 (ix3 g 0 0)) (v229 (ix3 g 0 0)) (v252 (ix3 g 0 0))
      (v275 (ix3 g 0 0)) (v298 (ix3 g 0 0)) := by
  pointwise [k3_pay47, k3_pay39, k3_pay40, k3_pay41, k3_pay42, k3_pay43, k3_pay44, k3_pay45, k3_pay46, k3_pay48]
  try rw [select_le]
  rw [zero_sub]
  rfl

end Cert.KernelIdeal.Gen

end

end
-- ==== Proof.Reg4.lean ====
/- What the last call leaves in its two arrays: every keypoint and every score. -/
module

public import proofs.«01_k».proof.Proof.Reg3

@[expose] public section

noncomputable section

namespace Cert.KernelIdeal.Gen
open Idealize.ShloMosaic Idealize.ShloMosaic.TcCoe Idealize.ShloMosaic.Tactic Idealize.SL.Sem
open Cert.Spec

set_option maxRecDepth 16384

/-! ## One step's stores -/

section step
variable (x0 : S19x96x128.Idx → EReal) (x1 : S96x96.Idx → EReal) (x2 : S128x128.Idx → EReal)

theorem pay2_score (v3 : S19x1x1.Idx → EReal) (a : Fin 1) (g : Fin 19) (s : Fin 1) :
    (k3_pay2 (F := Ideal) v3 : S1x19x1.Idx → EReal) (ix3 a g s) = v3 (ix3 g 0 0) := by
  obtain rfl : a = 0 := Subsingleton.elim _ _
  obtain rfl : s = 0 := Subsingleton.elim _ _
  pointwise [k3_pay2]

theorem pay1_x (v347 v351 : S19x1x1.Idx → EReal) (v349 : S19x1x1.Idx → BitVec 1) (e : EReal) (g : Fin 19) :
    (k3_pay1 (F := Ideal) v347 v349 v351 e : S1x19x2.Idx → EReal) (ix3 0 g 0) = v351 (ix3 g 0 0) := by
  pointwise [k3_pay1]
theorem pay1_y (v347 v351 : S19x1x1.Idx → EReal) (v349 : S19x1x1.Idx → BitVec 1) (e : EReal) (g : Fin 19) :
    (k3_pay1 (F := Ideal) v347 v349 v351 e : S1x19x2.Idx → EReal) (ix3 0 g 1) = Scalar.select (v349 (ix3 g 0 0)) e (v347 (ix3 g 0 0)) := by
  pointwise [k3_pay1]

theorem out3_4_at (a : Fin 1) (g : Fin 19) (s : Fin 1) :
    (out3_4 (F := Ideal) x0 x1 x2 : S1x19x1.Idx → EReal) (ix3 a g s) = top (hmap x0 g) := by
  refine (?_ : _ = k3_pay2 (F := Ideal) (k3_pay53 x0 x1 x2) (ix3 a g s)).trans ((pay2_score _ a g s).trans (pay53_at x0 x1 x2 g))
  unfold out3_4
  frame_out

/-- The coordinate kept in column `s`. -/
def coord (h : Fin 96 → Fin 128 → EReal) (s : Fin 2) : EReal := if s.val = 0 then keypointX h else keypointY h

variable (h1 : ∀ y a : Fin 96, x1 (ix2 y a) = Ideal.ofBits .f32 (bandWord y.val a.val))
  (h2 : ∀ b x : Fin 128, x2 (ix2 b x) = Ideal.ofBits .f32 (bandWord x.val b.val))

include h1 h2 in
theorem out3_3_at (a : Fin 1) (g : Fin 19) (s : Fin 2) :
    (out3_3 (F := Ideal) x0 x1 x2 : S1x19x2.Idx → EReal) (ix3 a g s) = coord (hmap x0 g) s := by
  obtain rfl : a = 0 := Subsingleton.elim _ _
  unfold out3_3
  frame_out
  match s with
  | ⟨0, _⟩ =>
    refine (pay1_x _ _ _ _ g).trans ((keyX_at _ _ _ _ _ _ _ _ _ g).trans ?_)
    rw [pay53_at, pay55_at, pay75_at x0 x1 x2 h1 h2, pay76_at x0 x1 x2 h1 h2, pay77_at x0 x1 x2 h1 h2, pay78_at x0 x1 x2 h1 h2,
      pay79_at x0 x1 x2 h1 h2, pay80_at x0 x1 x2 h1 h2, pay81_at x0 x1 x2 h1 h2]
    rfl
  | ⟨1, _⟩ =>
    refine (pay1_y _ _ _ _ g).trans ((keyY_at _ _ _ _ _ _ _ _ _ g).trans ?_)
    rw [pay53_at, pay54_at, pay75_at x0 x1 x2 h1 h2, pay76_at x0 x1 x2 h1 h2, pay77_at x0 x1 x2 h1 h2, pay78_at x0 x1 x2 h1 h2,
      pay79_at x0 x1 x2 h1 h2, pay80_at x0 x1 x2 h1 h2, pay81_at x0 x1 x2 h1 h2]
    rfl

end step

/-! ## The arrays after the fourteen steps -/

theorem idx3_0 : ∀ t : Fin cfg3.N, win3_0.index t = ![t.val, 0, 0] := by decide +kernel
theorem idx3_1 : ∀ t : Fin cfg3.N, win3_1.index t = ![0, 0] := by decide +kernel
theorem idx3_2 : ∀ t : Fin cfg3.N, win3_2.index t = ![0, 0] := by decide +kernel
theorem idx3_3 : ∀ t : Fin cfg3.N, win3_3.index t = ![t.val, 0, 0] := by decide +kernel
theorem idx3_4 : ∀ t : Fin cfg3.N, win3_4.index t = ![t.val, 0, 0] := by decide +kernel

variable (V : (c : Dev nD) → (b : Ref sig .tc) → Buf (Elt Ideal) ((c : Thread nD τ).loc b))

theorem lt3 (t : Fin cfg3.N) : t.val < 14 := t.isLt

theorem read3_0 (c : Dev nD) (t : Fin cfg3.N) (g : Fin 19) (y : Fin 96) (x : Fin 128) :
    iblk3 V c 0 t (ix3 g y x) = (V c main_v55 : S266x96x128.Idx → EReal) (ix3 ⟨19 * t.val + g.val, by have := lt3 t; omega⟩ y x) := by
  blk_ext [iblk3, idx3_0 t]
theorem read3_1 (c : Dev nD) (t : Fin cfg3.N) (y a : Fin 96) :
    iblk3 V c 1 t (ix2 y a) = (V c main_cst : S96x96.Idx → EReal) (ix2 y a) := by
  blk_ext [iblk3, idx3_1 t]
theorem read3_2 (c : Dev nD) (t : Fin cfg3.N) (b x : Fin 128) :
    iblk3 V c 2 t (ix2 b x) = (V c main_cst_0 : S128x128.Idx → EReal) (ix2 b x) := by
  blk_ext [iblk3, idx3_2 t]

/-- Map `19 n + g` of the stack. -/
def stackMap (H : S266x96x128.Idx → EReal) (n : Fin 14) (g : Fin 19) : Fin 96 → Fin 128 → EReal :=
  fun y x => H (ix3 ⟨19 * n.val + g.val, by omega⟩ y x)

theorem hmap_read (c : Dev nD) (t : Fin cfg3.N) (g : Fin 19) :
    hmap (iblk3 V c 0 t) g = stackMap (V c main_v55) ⟨t.val, lt3 t⟩ g :=
  funext fun y => funext fun x => read3_0 V c t g y x

/-- Every score, by step and map. -/
def outScores (H : S266x96x128.Idx → EReal) : S14x19x1.Idx → EReal := fun j => top (stackMap H (j 0) (j 1))
/-- Every keypoint, by step, map and coordinate. -/
def outPoints (H : S266x96x128.Idx → EReal) : S14x19x2.Idx → EReal := fun j => coord (stackMap H (j 0) (j 1)) (j 2)

theorem emb3_3 (t : Fin cfg3.N) (y : ((cfg3.win 3).xblock (cfg3.grid.coords t)).Idx) :
    ((View.whole main_v56_0).slice (win3_3.rect t)).emb y
      = (ix3 ⟨t.val, lt3 t⟩ ⟨(y 1).val, (y 1).isLt⟩ ⟨(y 2).val, (y 2).isLt⟩ : S14x19x2.Idx) := by
  blk_ext [idx3_3 t]
theorem emb3_4 (t : Fin cfg3.N) (y : ((cfg3.win 4).xblock (cfg3.grid.coords t)).Idx) :
    ((View.whole main_v56_1).slice (win3_4.rect t)).emb y
      = (ix3 ⟨t.val, lt3 t⟩ ⟨(y 1).val, (y 1).isLt⟩ ⟨(y 2).val, (y 2).isLt⟩ : S14x19x1.Idx) := by
  blk_ext [idx3_4 t]

theorem arr3_4 (c : Dev nD) : (dat3 V c).arrAt 4 cfg3.N = outScores (V c main_v55) := by
  refine (dat3 V c).arrAt_eq_of_covers 4 _ (by decide +kernel) fun t hf y => ?_
  blk_simp
  rw [after3_4]
  rw [emb3_4]
  rw [eq_ix3 y]
  exact (out3_4_at _ _ _ _ _ _).trans (congrArg top (hmap_read V c t _))

theorem arr3_3 (c : Dev nD)
    (h1 : ∀ y a : Fin 96, (V c main_cst : S96x96.Idx → EReal) (ix2 y a) = Ideal.ofBits .f32 (bandWord y.val a.val))
    (h2 : ∀ b x : Fin 128, (V c main_cst_0 : S128x128.Idx → EReal) (ix2 b x) = Ideal.ofBits .f32 (bandWord x.val b.val)) :
    (dat3 V c).arrAt 3 cfg3.N = outPoints (V c main_v55) := by
  refine (dat3 V c).arrAt_eq_of_covers 3 _ (by decide +kernel) fun t hf y => ?_
  blk_simp
  rw [after3_3]
  rw [emb3_3]
  rw [eq_ix3 y]
  exact (out3_3_at _ _ _ (fun y a => (read3_1 V c t y a).trans (h1 y a)) (fun b x => (read3_2 V c t b x).trans (h2 b x)) _ _ _).trans
    (congrArg (fun h => coord h _) (hmap_read V c t _))

end Cert.KernelIdeal.Gen

end

end
-- ==== Proof.Words.lean ====
/- The constant blur matrices hold the taps along a band, zero elsewhere. -/
module

public import proofs.«01_k».proof.Proof.IdealRegions
public import proofs.«01_k».proof.Proof.Post

@[expose] public section

noncomputable section

namespace Cert.KernelIdeal.Gen
open Idealize.ShloMosaic Idealize.ShloMosaic.TcCoe Idealize.ShloMosaic.Tactic Idealize.SL.Sem
open Cert.Spec

set_option maxRecDepth 16384

theorem rows_band : ∀ y a : Fin 96, lit0 ⟨96 * y.val + a.val, by omega⟩ = bandWord y.val a.val := by decide +kernel
theorem cols_band : ∀ b x : Fin 128, lit1 ⟨128 * b.val + x.val, by omega⟩ = bandWord x.val b.val := by decide +kernel

end Cert.KernelIdeal.Gen

end

end
-- ==== Proof.Kern3.lean ====
/- The kernel's two results, entry by entry. -/
module

public import proofs.«01_k».proof.Proof.Kern2
public import proofs.«01_k».proof.Proof.Reg4
public import proofs.«01_k».proof.Proof.Words

@[expose] public section

noncomputable section

namespace Cert.KernelIdeal.Gen
open Idealize.ShloMosaic Idealize.ShloMosaic.TcCoe Idealize.ShloMosaic.Tactic Idealize.SL.Sem
open StableHlo Cert.Spec

set_option maxRecDepth 16384
variable (m : (ℓ : Loc nD τ sig) → Buf (Elt Ideal) ℓ) (ρ : Dev nD → PrngReg) (c : Dev nD)

/-- The first blur matrix reaches the last call as @main wrote it. -/
theorem cst_at (y a : Fin 96) : (V9 m ρ c main_cst : S96x96.Idx → EReal) (ix2 y a) = Ideal.ofBits .f32 (bandWord y.val a.val) := by
  unfold V9
  rw [W9_of m ρ c main_cst (by decide), W8_of_ne m ρ c main_cst (by decide), W7_of m ρ c main_cst (by decide), W6_of_ne m ρ c main_cst (by decide),
    W5_of m ρ c main_cst (by decide), W4_of_ne m ρ c main_cst (by decide), W3_of m ρ c main_cst (by decide), W2_of m ρ c main_cst (by decide)]
  unfold W1
  after_results
  rw [← rows_band]
  pointwise []
  refine congrArg (fun j => Ideal.ofBits .f32 (lit0 j)) (Fin.ext ((Shape.rowMajor_val_two _).trans ?_))
  show y.val * 96 + a.val = 96 * y.val + a.val
  omega
theorem cst_0_at (b x : Fin 128) : (V9 m ρ c main_cst_0 : S128x128.Idx → EReal) (ix2 b x) = Ideal.ofBits .f32 (bandWord x.val b.val) := by
  unfold V9
  rw [W9_of m ρ c main_cst_0 (by decide), W8_of_ne m ρ c main_cst_0 (by decide), W7_of m ρ c main_cst_0 (by decide), W6_of_ne m ρ c main_cst_0 (by decide),
    W5_of m ρ c main_cst_0 (by decide), W4_of_ne m ρ c main_cst_0 (by decide), W3_of m ρ c main_cst_0 (by decide), W2_of m ρ c main_cst_0 (by decide)]
  unfold W1
  after_results
  rw [← cols_band]
  pointwise []
  refine congrArg (fun j => Ideal.ofBits .f32 (lit1 j)) (Fin.ext ((Shape.rowMajor_val_two _).trans ?_))
  show b.val * 128 + x.val = 128 * b.val + x.val
  omega

/-- The heatmap of image `b` and joint `k`. -/
def heat (b : Fin 2) (k : Fin 133) : Fin 96 → Fin 128 → EReal :=
  conv (fun i => conv (fun i => deconv (x0 m c) (x1 m c) b i) (x2 m c) (x3 m c) i) (x4 m c) (x5 m c) k

theorem stack_heat (h : Finite m c) (b : Fin 2) (k : Fin 133) :
    stackMap (V9 m ρ c main_v55) ⟨b.val * 7 + k.val / 19, by omega⟩ ⟨k.val % 19, by omega⟩ = heat m c b k := by
  funext y x
  refine (hm_at m ρ c h _ y x).trans ?_
  unfold heat
  have e1 : ∀ p, (⟨(19 * (b.val * 7 + k.val / 19) + k.val % 19) / 133, p⟩ : Fin 2) = b := fun p => Fin.ext (by simp only; omega)
  have e2 : ∀ p, (⟨(19 * (b.val * 7 + k.val / 19) + k.val % 19) % 133, p⟩ : Fin 133) = k := fun p => Fin.ext (by simp only; omega)
  dsimp only
  rw [e1, e2]

/-- The kernel's scores. -/
theorem scores_at (h : Finite m c) (b : Fin 2) (k : Fin 133) :
    (W11 m ρ c (Proc.devRef .tc main_v58) : S2x133.Idx → EReal) (ix2 b k) = top (heat m c b k) := by
  rw [v58_at, show W10 m ρ c (Proc.devRef .tc main_v56_1) = _ from W10_arr m ρ c 4, arr3_4]
  exact congrArg top (stack_heat m ρ c h b k)

/-- The kernel's keypoints. -/
theorem points_at (h : Finite m c) (b : Fin 2) (k : Fin 133) (s : Fin 2) :
    (W11 m ρ c (Proc.devRef .tc main_v57) : S2x133x2.Idx → EReal) (ix3 b k s) = coord (heat m c b k) s := by
  rw [v57_at, show W10 m ρ c (Proc.devRef .tc main_v56_0) = _ from W10_arr m ρ c 3,
    arr3_3 (V9 m ρ) c (fun y a => cst_at m ρ c y a) (fun b x => cst_0_at m ρ c b x)]
  exact congrArg (fun f => coord f s) (stack_heat m ρ c h b k)

end Cert.KernelIdeal.Gen

end

end
-- ==== Proof.Ref0.lean ====
/- The reference's transposed convolution is the parity-selected four-tap sum: of the sixteen taps over the dilated input,
   those that meet an inserted zero contribute nothing. -/
module

public import proofs.«01_k».proof.Proof.Gen.ReferenceIdeal.Run
public import proofs.«01_k».proof.Proof.Spec

@[expose] public section

noncomputable section

namespace Cert.ReferenceIdeal.Value
open Idealize.ShloMosaic Idealize.ShloMosaic.TcCoe Idealize.ShloMosaic.Tactic Idealize.SL.Sem
open Cert.Spec

set_option maxRecDepth 16384

variable (V0 : Valuation τ sig (Elt Ideal))

abbrev a0 : S2x640x48x64.Idx → EReal := V0 (Proc.devRef .tc main_arg0)
abbrev a1 : S640x640x4x4.Idx → EReal := V0 (Proc.devRef .tc main_arg1)

/-- An even row and column of the dilated input is the padded input at half of it. -/
theorem v0_even (b : Fin 2) (i : Fin 640) (r : Fin 99) (s : Fin 131) (hr : r.val % 2 = 0) (hs : s.val % 2 = 0) :
    (res_main_v0 (F := Ideal) V0 : S2x640x99x131.Idx → EReal) (ix4 b i r s) = xpad (a0 V0) b i (r.val / 2) (s.val / 2) := by
  pointwise [res_main_v0]
  unfold xpad
  by_cases h : (1 ≤ r.val / 2 ∧ r.val / 2 - 1 < 48) ∧ 1 ≤ s.val / 2 ∧ s.val / 2 - 1 < 64
  · rw [dif_pos h, dif_pos]
    · refine congrArg (a0 V0) ?_
      congr 1 <;> exact Fin.ext (by simp only; omega)
    · intro a
      fin_cases a
      · exact ⟨Nat.zero_le _, Nat.mod_one _, by have h := b.isLt; simpa [ix4] using h⟩
      · exact ⟨Nat.zero_le _, Nat.mod_one _, by have h := i.isLt; simpa [ix4] using h⟩
      · show 2 ≤ r.val ∧ (r.val - 2) % 2 = 0 ∧ (r.val - 2) / 2 < 48
        omega
      · show 2 ≤ s.val ∧ (s.val - 2) % 2 = 0 ∧ (s.val - 2) / 2 < 64
        omega
  · rw [dif_neg h, dif_neg]
    intro hh
    have h2 : 2 ≤ r.val ∧ (r.val - 2) % 2 = 0 ∧ (r.val - 2) / 2 < 48 := hh 2
    have h3 : 2 ≤ s.val ∧ (s.val - 2) % 2 = 0 ∧ (s.val - 2) / 2 < 64 := hh 3
    omega

/-- An odd row or column of the dilated input is zero. -/
theorem v0_odd (b : Fin 2) (i : Fin 640) (r : Fin 99) (s : Fin 131) (h : ¬ (r.val % 2 = 0 ∧ s.val % 2 = 0)) :
    (res_main_v0 (F := Ideal) V0 : S2x640x99x131.Idx → EReal) (ix4 b i r s) = (0 : EReal) := by
  pointwise [res_main_v0]
  rw [dif_neg]
  intro hh
  have h2 : 2 ≤ r.val ∧ (r.val - 2) % 2 = 0 ∧ (r.val - 2) / 2 < 48 := hh 2
  have h3 : 2 ≤ s.val ∧ (s.val - 2) % 2 = 0 ∧ (s.val - 2) / 2 < 64 := hh 3
  omega

/-- One of the sixteen taps: the kernel entry `(u, v)` against the dilated input at `(r, s)`. -/
def tap16 (b : Fin 2) (o : Fin 640) (u v : Fin 4) (r : Fin 99) (s : Fin 131) : EReal :=
  ∑ i : Fin 640, a1 V0 (ix4 i o u v) * (res_main_v0 (F := Ideal) V0 : S2x640x99x131.Idx → EReal) (ix4 b i r s)

theorem tap16_odd (b : Fin 2) (o : Fin 640) (u v : Fin 4) (r : Fin 99) (s : Fin 131) (h : ¬ (r.val % 2 = 0 ∧ s.val % 2 = 0)) :
    tap16 V0 b o u v r s = 0 := by
  refine Finset.sum_eq_zero fun i _ => ?_
  rw [v0_odd V0 b i r s h, mul_zero]

theorem tap16_even (b : Fin 2) (o : Fin 640) (u v u' v' : Fin 4) (r : Fin 99) (s : Fin 131) (r' s' : ℕ) (hr : r.val = 2 * r') (hs : s.val = 2 * s')
    (hu : u.val = u'.val) (hv : v.val = v'.val) :
    tap16 V0 b o u v r s = ∑ i : Fin 640, xpad (a0 V0) b i r' s' * a1 V0 (ix4 i o u' v') := by
  obtain rfl := Fin.ext hu
  obtain rfl := Fin.ext hv
  refine Finset.sum_congr rfl fun i _ => ?_
  rw [v0_even V0 b i r s (by omega) (by omega), mul_comm, show r.val / 2 = r' by omega, show s.val / 2 = s' by omega]

/-- The reference's transposed convolution, entry by entry. -/
theorem v98_at (b : Fin 2) (o : Fin 640) (y : Fin 96) (x : Fin 128) :
    (res_main_v98 (F := Ideal) V0 : S2x640x96x128.Idx → EReal) (ix4 b o y x) = deconv (a0 V0) (a1 V0) b o y x := by
  pointwise [res_main_v98, res_main_v56, res_main_v1]
  change tap16 V0 b o 3 3 ⟨y.val, by omega⟩ ⟨x.val, by omega⟩ + tap16 V0 b o 3 2 ⟨y.val, by omega⟩ ⟨1 + x.val, by omega⟩
    + tap16 V0 b o 3 1 ⟨y.val, by omega⟩ ⟨2 + x.val, by omega⟩ + tap16 V0 b o 3 0 ⟨y.val, by omega⟩ ⟨3 + x.val, by omega⟩
    + tap16 V0 b o 2 3 ⟨1 + y.val, by omega⟩ ⟨x.val, by omega⟩ + tap16 V0 b o 2 2 ⟨1 + y.val, by omega⟩ ⟨1 + x.val, by omega⟩
    + tap16 V0 b o 2 1 ⟨1 + y.val, by omega⟩ ⟨2 + x.val, by omega⟩ + tap16 V0 b o 2 0 ⟨1 + y.val, by omega⟩ ⟨3 + x.val, by omega⟩
    + tap16 V0 b o 1 3 ⟨2 + y.val, by omega⟩ ⟨x.val, by omega⟩ + tap16 V0 b o 1 2 ⟨2 + y.val, by omega⟩ ⟨1 + x.val, by omega⟩
    + tap16 V0 b o 1 1 ⟨2 + y.val, by omega⟩ ⟨2 + x.val, by omega⟩ + tap16 V0 b o 1 0 ⟨2 + y.val, by omega⟩ ⟨3 + x.val, by omega⟩
    + tap16 V0 b o 0 3 ⟨3 + y.val, by omega⟩ ⟨x.val, by omega⟩ + tap16 V0 b o 0 2 ⟨3 + y.val, by omega⟩ ⟨1 + x.val, by omega⟩
    + tap16 V0 b o 0 1 ⟨3 + y.val, by omega⟩ ⟨2 + x.val, by omega⟩ + tap16 V0 b o 0 0 ⟨3 + y.val, by omega⟩ ⟨3 + x.val, by omega⟩ = _
  unfold deconv
  rw [Fin.sum_univ_four]
  rcases Nat.mod_two_eq_zero_or_one y.val with hy | hy <;> rcases Nat.mod_two_eq_zero_or_one x.val with hx | hx <;>
    simp (disch := (simp only; omega)) only [tap16_odd V0, zero_add, add_zero] <;>
    refine congrArg₂ (· + ·) (congrArg₂ (· + ·) (congrArg₂ (· + ·) ?_ ?_) ?_) ?_ <;>
    refine tap16_even V0 b o _ _ _ _ _ _ _ _ ?_ ?_ ?_ ?_ <;> simp [hy, hx] <;> omega

end Cert.ReferenceIdeal.Value

end

end
-- ==== Proof.Ref1.lean ====
/- The reference's three layers after the transposed convolution, entry by entry. -/
module

public import proofs.«01_k».proof.Proof.Ref0
public import proofs.«01_k».proof.Proof.Norm

@[expose] public section

noncomputable section

namespace Cert.ReferenceIdeal.Value
open Idealize.ShloMosaic Idealize.ShloMosaic.TcCoe Idealize.ShloMosaic.Tactic Idealize.SL.Sem
open Cert.Spec

set_option maxRecDepth 16384

variable (V0 : Valuation τ sig (Elt Ideal))

abbrev w2 : Fin 640 → Fin 640 → EReal := fun o i => (V0 (Proc.devRef .tc main_arg2) : S640x640x1x1.Idx → EReal) (ix4 o i 0 0)
abbrev b3 : Fin 640 → EReal := fun o => (V0 (Proc.devRef .tc main_arg3) : S640.Idx → EReal) (ix1 o)
abbrev w4 : Fin 133 → Fin 640 → EReal := fun o i => (V0 (Proc.devRef .tc main_arg4) : S133x640x1x1.Idx → EReal) (ix4 o i 0 0)
abbrev b5 : Fin 133 → EReal := fun o => (V0 (Proc.devRef .tc main_arg5) : S133.Idx → EReal) (ix1 o)

theorem v116_at (b : Fin 2) (o : Fin 640) (y : Fin 96) (x : Fin 128) :
    (res_main_v116 (F := Ideal) V0 : S2x640x96x128.Idx → EReal) (ix4 b o y x)
      = inorm (fun y x => (res_main_v98 (F := Ideal) V0 : S2x640x96x128.Idx → EReal) (ix4 b o y x)) y x := by
  pointwise [res_main_v116, res_main_v104, res_main_v102]
  rfl

theorem v123_at (b : Fin 2) (o : Fin 640) (y : Fin 96) (x : Fin 128) :
    (res_main_v123 (F := Ideal) V0 : S2x640x96x128.Idx → EReal) (ix4 b o y x)
      = conv (fun i y x => (res_main_v98 (F := Ideal) V0 : S2x640x96x128.Idx → EReal) (ix4 b i y x)) (w2 V0) (b3 V0) o y x := by
  pointwise [res_main_v123]
  simp only [v116_at]
  rfl

theorem v141_at (b : Fin 2) (o : Fin 640) (y : Fin 96) (x : Fin 128) :
    (res_main_v141 (F := Ideal) V0 : S2x640x96x128.Idx → EReal) (ix4 b o y x)
      = inorm (fun y x => (res_main_v123 (F := Ideal) V0 : S2x640x96x128.Idx → EReal) (ix4 b o y x)) y x := by
  pointwise [res_main_v141, res_main_v129, res_main_v127]
  rfl

theorem v148_conv (b : Fin 2) (o : Fin 133) (y : Fin 96) (x : Fin 128) :
    (res_main_v148 (F := Ideal) V0 : S2x133x96x128.Idx → EReal) (ix4 b o y x)
      = conv (fun i y x => (res_main_v123 (F := Ideal) V0 : S2x640x96x128.Idx → EReal) (ix4 b i y x)) (w4 V0) (b5 V0) o y x := by
  pointwise [res_main_v148]
  simp only [v141_at]
  rfl

/-- The reference's heatmaps. -/
theorem v148_at (b : Fin 2) (o : Fin 133) (y : Fin 96) (x : Fin 128) :
    (res_main_v148 (F := Ideal) V0 : S2x133x96x128.Idx → EReal) (ix4 b o y x)
      = conv (fun i => conv (fun i => deconv (a0 V0) (a1 V0) b i) (w2 V0) (b3 V0) i) (w4 V0) (b5 V0) o y x := by
  simp only [v148_conv, v123_at, v98_at]

end Cert.ReferenceIdeal.Value

end

end
-- ==== Proof.Ref2.lean ====
/- The reference's blur: the seventeen taps along the columns and along the rows of the zero-bordered heatmap. The mirrored
   outer border is never met by an entry that is kept, the border of five zeros being in between. -/
module

public import proofs.«01_k».proof.Proof.Ref1
public import proofs.«01_k».proof.Proof.Post

@[expose] public section

noncomputable section

namespace Cert.ReferenceIdeal.Value
open Idealize.ShloMosaic Idealize.ShloMosaic.TcCoe Idealize.ShloMosaic.Tactic Idealize.SL.Sem
open Cert.Spec

set_option maxRecDepth 16384

variable (V0 : Valuation τ sig (Elt Ideal))

/-- One heatmap. -/
def hmap (b : Fin 2) (k : Fin 133) : Fin 96 → Fin 128 → EReal :=
  fun y x => (res_main_v148 (F := Ideal) V0 : S2x133x96x128.Idx → EReal) (ix4 b k y x)

/-- The zero-bordered map. -/
theorem v166_at (b : Fin 2) (k : Fin 133) (r : Fin 106) (s : Fin 138) :
    (res_main_v166 (F := Ideal) V0 : S2x133x106x138.Idx → EReal) (ix4 b k r s) = around (hmap V0 b k) (r.val + 3) (s.val + 3) := by
  have z : (FloatOps.sitofp (F := Ideal) FTy.f32 (0#32 : BitVec 32)) = (0 : EReal) := by
    show (((0#32 : BitVec 32).toInt : ℝ) : EReal) = 0
    simp
  pointwise [res_main_v166]
  rw [z]
  unfold around hmap
  by_cases h : (8 ≤ r.val + 3 ∧ r.val + 3 - 8 < 96) ∧ 8 ≤ s.val + 3 ∧ s.val + 3 - 8 < 128
  · rw [dif_pos h, dif_pos]
    · congr 1 <;> exact Fin.ext (by simp only; omega)
    · intro a
      fin_cases a
      · exact ⟨Nat.zero_le _, Nat.mod_one _, by have h := b.isLt; simpa [ix4] using h⟩
      · exact ⟨Nat.zero_le _, Nat.mod_one _, by have h := k.isLt; simpa [ix4] using h⟩
      · show 5 ≤ r.val ∧ (r.val - 5) % 1 = 0 ∧ (r.val - 5) / 1 < 96
        omega
      · show 5 ≤ s.val ∧ (s.val - 5) % 1 = 0 ∧ (s.val - 5) / 1 < 128
        omega
  · rw [dif_neg h, dif_neg]
    intro hh
    have h2 : 5 ≤ r.val ∧ (r.val - 5) % 1 = 0 ∧ (r.val - 5) / 1 < 96 := hh 2
    have h3 : 5 ≤ s.val ∧ (s.val - 5) % 1 = 0 ∧ (s.val - 5) / 1 < 128 := hh 3
    omega

theorem c3_at (b : Fin 2) (k : Fin 133) (r : Fin 114) (s : Fin 138) :
    (res_main_call5_v3 (F := Ideal) V0 : S2x133x114x138.Idx → EReal) (ix4 b k r s)
      = (res_main_v166 (F := Ideal) V0 : S2x133x106x138.Idx → EReal) (ix4 b k ⟨if r.val < 8 then 7 - r.val else r.val - 8, by split_ifs <;> omega⟩ s) := by
  have key : ∀ q q' : Fin 106, q = q' → (res_main_v166 (F := Ideal) V0 : S2x133x106x138.Idx → EReal) (ix4 b k q s)
      = (res_main_v166 (F := Ideal) V0 : S2x133x106x138.Idx → EReal) (ix4 b k q' s) := by rintro q _ rfl; rfl
  pointwise [res_main_call5_v3]
  by_cases h : r.val < 8
  · rw [dif_pos h]
    refine key _ _ (Fin.ext ?_)
    show 8 - (r.val + 1) = if r.val < 8 then _ else _
    rw [if_pos h]; omega
  · rw [dif_neg h]
    refine key _ _ (Fin.ext ?_)
    show r.val - 8 = if r.val < 8 then _ else _
    rw [if_neg h]

theorem c7_at (b : Fin 2) (k : Fin 133) (r : Fin 122) (s : Fin 138) :
    (res_main_call5_v7 (F := Ideal) V0 : S2x133x122x138.Idx → EReal) (ix4 b k r s)
      = (res_main_call5_v3 (F := Ideal) V0 : S2x133x114x138.Idx → EReal) (ix4 b k ⟨if r.val < 114 then r.val else 227 - r.val, by split_ifs <;> omega⟩ s) := by
  have key : ∀ q q' : Fin 114, q = q' → (res_main_call5_v3 (F := Ideal) V0 : S2x133x114x138.Idx → EReal) (ix4 b k q s)
      = (res_main_call5_v3 (F := Ideal) V0 : S2x133x114x138.Idx → EReal) (ix4 b k q' s) := by rintro q _ rfl; rfl
  pointwise [res_main_call5_v7]
  by_cases h : r.val < 114
  · rw [dif_pos h]
    refine key _ _ (Fin.ext ?_)
    show r.val = if r.val < 114 then _ else _
    rw [if_pos h]
  · rw [dif_neg h]
    refine key _ _ (Fin.ext ?_)
    show 106 + (8 - (r.val - 114 + 1)) = if r.val < 114 then _ else _
    rw [if_neg h]; omega

theorem c11_at (b : Fin 2) (k : Fin 133) (r : Fin 122) (s : Fin 146) :
    (res_main_call5_v11 (F := Ideal) V0 : S2x133x122x146.Idx → EReal) (ix4 b k r s)
      = (res_main_call5_v7 (F := Ideal) V0 : S2x133x122x138.Idx → EReal) (ix4 b k r ⟨if s.val < 8 then 7 - s.val else s.val - 8, by split_ifs <;> omega⟩) := by
  have key : ∀ q q' : Fin 138, q = q' → (res_main_call5_v7 (F := Ideal) V0 : S2x133x122x138.Idx → EReal) (ix4 b k r q)
      = (res_main_call5_v7 (F := Ideal) V0 : S2x133x122x138.Idx → EReal) (ix4 b k r q') := by rintro q _ rfl; rfl
  pointwise [res_main_call5_v11]
  by_cases h : s.val < 8
  · rw [dif_pos h]
    refine key _ _ (Fin.ext ?_)
    show 8 - (s.val + 1) = if s.val < 8 then _ else _
    rw [if_pos h]; omega
  · rw [dif_neg h]
    refine key _ _ (Fin.ext ?_)
    show s.val - 8 = if s.val < 8 then _ else _
    rw [if_neg h]

theorem v167_at (b : Fin 2) (k : Fin 133) (r : Fin 122) (s : Fin 154) :
    (res_main_v167 (F := Ideal) V0 : S2x133x122x154.Idx → EReal) (ix4 b k r s)
      = (res_main_call5_v11 (F := Ideal) V0 : S2x133x122x146.Idx → EReal) (ix4 b k r ⟨if s.val < 146 then s.val else 291 - s.val, by split_ifs <;> omega⟩) := by
  have key : ∀ q q' : Fin 146, q = q' → (res_main_call5_v11 (F := Ideal) V0 : S2x133x122x146.Idx → EReal) (ix4 b k r q)
      = (res_main_call5_v11 (F := Ideal) V0 : S2x133x122x146.Idx → EReal) (ix4 b k r q') := by rintro q _ rfl; rfl
  pointwise [res_main_v167]
  by_cases h : s.val < 146
  · rw [dif_pos h]
    refine key _ _ (Fin.ext ?_)
    show s.val = if s.val < 146 then _ else _
    rw [if_pos h]
  · rw [dif_neg h]
    refine key _ _ (Fin.ext ?_)
    show 138 + (8 - (s.val - 146 + 1)) = if s.val < 146 then _ else _
    rw [if_neg h]; omega

/-- Where a kept entry looks, the bordered map is the heatmap with zeros round it. -/
theorem border_at (b : Fin 2) (k : Fin 133) (r : Fin 122) (s : Fin 154) (hr : 5 ≤ r.val ∧ r.val < 117) (hs : 5 ≤ s.val ∧ s.val < 149) :
    (res_main_v167 (F := Ideal) V0 : S2x133x122x154.Idx → EReal) (ix4 b k r s) = around (hmap V0 b k) (r.val - 5) (s.val - 5) := by
  rw [v167_at, c11_at, c7_at, c3_at, v166_at]
  unfold around
  dsimp only
  by_cases h : (8 ≤ r.val - 5 ∧ r.val - 5 - 8 < 96) ∧ 8 ≤ s.val - 5 ∧ s.val - 5 - 8 < 128
  · rw [dif_pos h, dif_pos (by split_ifs <;> omega)]
    congr 1 <;> refine Fin.ext ?_ <;> dsimp only <;> split_ifs <;> omega
  · rw [dif_neg h, dif_neg (by split_ifs <;> omega)]

theorem sum17 (f : Fin 17 → EReal) : f 0 + (f 1 + (f 2 + (f 3 + (f 4 + (f 5 + (f 6 + (f 7 + (f 8 + (f 9 + (f 10 + (f 11 + (f 12 + (f 13 + (f 14 + (f 15 + f 16))))))))))))))) = ∑ j : Fin 17, f j := by
  simp only [Fin.sum_univ_succ, Fin.sum_univ_zero, add_zero]
  rfl
theorem sum17_congr {f g : Fin 17 → EReal} (h : ∀ j, f j = g j) : ∑ j : Fin 17, f j = ∑ j : Fin 17, g j :=
  Finset.sum_congr rfl fun j _ => h j

/-- The taps along the columns. -/
theorem v236_at (b : Fin 2) (k : Fin 133) (r : Fin 106) (s : Fin 154) :
    (res_main_v236 (F := Ideal) V0 : S2x133x106x154.Idx → EReal) (ix4 b k r s)
      = ∑ j : Fin 17, gtap j.val * (res_main_v167 (F := Ideal) V0 : S2x133x122x154.Idx → EReal) (ix4 b k ⟨j.val + r.val, by omega⟩ s) := by
  pointwise [res_main_v236]
  simp only [add_assoc]
  rw [show ∀ h, (⟨r.val, h⟩ : Fin 122) = ⟨0 + r.val, by omega⟩ from fun _ => Fin.ext (Nat.zero_add _).symm]
  exact sum17 fun j => gtap j.val * (res_main_v167 (F := Ideal) V0 : S2x133x122x154.Idx → EReal) (ix4 b k ⟨j.val + r.val, by omega⟩ s)

/-- The taps along the rows. -/
theorem v306_taps (b : Fin 2) (k : Fin 133) (y : Fin 96) (x : Fin 128) :
    (res_main_v306 (F := Ideal) V0 : S2x133x96x128.Idx → EReal) (ix4 b k y x)
      = ∑ j : Fin 17, gtap j.val * (res_main_v236 (F := Ideal) V0 : S2x133x106x154.Idx → EReal)
          (ix4 b k ⟨5 + y.val, by omega⟩ ⟨j.val + (5 + x.val), by omega⟩) := by
  pointwise [res_main_v306]
  simp only [add_assoc]
  rw [show ∀ h, (⟨5 + x.val, h⟩ : Fin 154) = ⟨0 + (5 + x.val), by omega⟩ from fun _ => Fin.ext (Nat.zero_add _).symm]
  exact sum17 fun j => gtap j.val * (res_main_v236 (F := Ideal) V0 : S2x133x106x154.Idx → EReal)
          (ix4 b k ⟨5 + y.val, by omega⟩ ⟨j.val + (5 + x.val), by omega⟩)

/-- The two passes blur each heatmap. -/
theorem v306_at (b : Fin 2) (k : Fin 133) (y : Fin 96) (x : Fin 128) :
    (res_main_v306 (F := Ideal) V0 : S2x133x96x128.Idx → EReal) (ix4 b k y x) = blur (hmap V0 b k) y x := by
  refine (v306_taps V0 b k y x).trans (sum17_congr fun j => congrArg (gtap j.val * ·) ?_)
  refine (v236_at V0 b k _ _).trans (sum17_congr fun i => congrArg (gtap i.val * ·) ?_)
  refine (border_at V0 b k _ _ (by simp only; omega) (by simp only; omega)).trans ?_
  congr 1 <;> simp only <;> omega

end Cert.ReferenceIdeal.Value

end

end
-- ==== Proof.Gath.lean ====
/- The reference's reads at a computed place: one entry of a flattened heatmap, and a three by three window. -/
module

public import proofs.«01_k».proof.Proof.Ref1

@[expose] public section

noncomputable section

namespace Cert.ReferenceIdeal.Value
open Idealize.ShloMosaic Idealize.ShloMosaic.TcCoe Idealize.ShloMosaic.Tactic Idealize.SL.Sem

set_option maxRecDepth 16384

/-- The entry read from map `(b, k)` is the one its own index word names. -/
theorem entry_at {α : Type} (v : S2x133x12288.Idx → α) (w : S2x133x1.Idx → BitVec 32) (b : Fin 2) (k : Fin 133) :
    Host.gather gather_S2x133x12288_S2x133x1_S2x133x1_2_n_01_01_2_2_111 v w (ix3 b k 0)
      = v (ix3 b k ⟨min (w (ix3 b k 0)).toInt.toNat 12287, by omega⟩) := by
  unfold Host.gather
  congr 1
  funext a
  refine Fin.ext ?_
  have hsi : ∀ c, gather_S2x133x12288_S2x133x1_S2x133x1_2_n_01_01_2_2_111.siIdx (ix3 b k 0) c = (ix3 b k 0 : S2x133x1.Idx) := by
    intro c
    funext d; refine Fin.ext ?_
    have hc : c.val = 0 := by have : c.val < 1 := c.isLt; omega
    match d with
    | ⟨0, _⟩ => rfl
    | ⟨1, _⟩ => rfl
    | ⟨2, _⟩ => exact hc
  match a with
  | ⟨0, _⟩ => show 0 + b.val + 0 = b.val; omega
  | ⟨1, _⟩ => show 0 + k.val + 0 = k.val; omega
  | ⟨2, _⟩ =>
    show min (w (gather_S2x133x12288_S2x133x1_S2x133x1_2_n_01_01_2_2_111.siIdx (ix3 b k 0) _)).toInt.toNat 12287 + 0 + 0 = _
    rw [hsi]; rfl

/-- The window read from map `(b, k)` begins at the row and column its own two words name. -/
theorem window_at {α : Type} (v : S2x133x98x130.Idx → α) (w : S2x133x2.Idx → BitVec 32) (b : Fin 2) (k : Fin 133) (d e : Fin 3) :
    Host.gather gather_S2x133x98x130_S2x133x2_S2x133x3x3_23_n_01_01_23_2_1133 v w (ix4 b k d e)
      = v (ix4 b k ⟨min (w (ix3 b k 0)).toInt.toNat 95 + d.val, by omega⟩ ⟨min (w (ix3 b k 1)).toInt.toNat 127 + e.val, by omega⟩) := by
  unfold Host.gather
  congr 1
  funext a
  refine Fin.ext ?_
  have hsi : ∀ c, gather_S2x133x98x130_S2x133x2_S2x133x3x3_23_n_01_01_23_2_1133.siIdx (ix4 b k d e) c = (ix3 b k ⟨c.val, c.isLt⟩ : S2x133x2.Idx) := by
    intro c
    funext d; refine Fin.ext ?_
    match d with
    | ⟨0, _⟩ => rfl
    | ⟨1, _⟩ => rfl
    | ⟨2, _⟩ => rfl
  match a with
  | ⟨0, _⟩ => show 0 + b.val + 0 = b.val; omega
  | ⟨1, _⟩ => show 0 + k.val + 0 = k.val; omega
  | ⟨2, _⟩ =>
    show min (w (gather_S2x133x98x130_S2x133x2_S2x133x3x3_23_n_01_01_23_2_1133.siIdx (ix4 b k d e) _)).toInt.toNat 95 + 0 + d.val = _
    rw [hsi]; rfl
  | ⟨3, _⟩ =>
    show min (w (gather_S2x133x98x130_S2x133x2_S2x133x3x3_23_n_01_01_23_2_1133.siIdx (ix4 b k d e) _)).toInt.toNat 127 + 0 + e.val = _
    rw [hsi]; rfl

end Cert.ReferenceIdeal.Value

end

end
-- ==== Proof.Ref3.lean ====
/- The reference's largest entries, their places, and the logarithm of the rescaled blurred map. -/
module

public import proofs.«01_k».proof.Proof.Ref2
public import proofs.«01_k».proof.Proof.Gath

@[expose] public section

noncomputable section

namespace Cert.ReferenceIdeal.Value
open Idealize.ShloMosaic Idealize.ShloMosaic.TcCoe Idealize.ShloMosaic.Tactic Idealize.SL.Sem
open Cert.Spec Cert.ReferenceIdeal.Gen

set_option maxRecDepth 16384

variable (V0 : Valuation τ sig (Elt Ideal))

/-- The entries a maximum over one map takes in. -/
theorem drop4 (i : S2x133x96x128.Idx) (b : Fin 2) (k : Fin 133) :
    reducesTo_S2x133x96x128_S2x133_d2_3.drop i = ix2 b k ↔ i 0 = b ∧ i 1 = k := by
  have h0 : (reducesTo_S2x133x96x128_S2x133_d2_3.drop i 0 : Nat) = i 0 := Shape.ReducesTo.drop_apply_val _ i 0
  have h1 : (reducesTo_S2x133x96x128_S2x133_d2_3.drop i 1 : Nat) = i 1 := Shape.ReducesTo.drop_apply_val _ i 1
  constructor
  · intro e; rw [e] at h0 h1; exact ⟨Fin.ext h0.symm, Fin.ext h1.symm⟩
  · rintro ⟨rfl, rfl⟩
    funext a
    match a with
    | ⟨0, _⟩ => exact Fin.ext h0
    | ⟨1, _⟩ => exact Fin.ext h1
theorem drop3 (i : S2x133x12288.Idx) (b : Fin 2) (k : Fin 133) :
    reducesTo_S2x133x12288_S2x133_d2.drop i = ix2 b k ↔ i 0 = b ∧ i 1 = k := by
  have h0 : (reducesTo_S2x133x12288_S2x133_d2.drop i 0 : Nat) = i 0 := Shape.ReducesTo.drop_apply_val _ i 0
  have h1 : (reducesTo_S2x133x12288_S2x133_d2.drop i 1 : Nat) = i 1 := Shape.ReducesTo.drop_apply_val _ i 1
  constructor
  · intro e; rw [e] at h0 h1; exact ⟨Fin.ext h0.symm, Fin.ext h1.symm⟩
  · rintro ⟨rfl, rfl⟩
    funext a
    match a with
    | ⟨0, _⟩ => exact Fin.ext h0
    | ⟨1, _⟩ => exact Fin.ext h1

/-- A maximum over the rows and columns of a map is its largest entry. -/
theorem max4 (v : S2x133x96x128.Idx → EReal) (b : Fin 2) (k : Fin 133) :
    (Finset.univ.filter fun i => reducesTo_S2x133x96x128_S2x133_d2_3.drop i = ix2 b k).fold max (Ideal.ofBits .f32 4286578688#32) v
      = top fun y x => v (ix4 b k y x) := by
  refine fold_top _ _ _ (fun i hi => ?_) ?_
  · obtain ⟨h0, h1⟩ := (drop4 i b k).1 (Finset.mem_filter.1 hi).2
    have e := eq_ix4 i
    rw [h0, h1] at e
    rw [e]
    exact le_top (fun y x => v (ix4 b k y x)) (i 2) (i 3)
  · obtain ⟨p, hp⟩ := has_top fun y x => v (ix4 b k y x)
    exact ⟨ix4 b k p.1 p.2, Finset.mem_filter.2 ⟨Finset.mem_univ _, (drop4 (ix4 b k p.1 p.2) b k).2 ⟨rfl, rfl⟩⟩, hp⟩

theorem maxPair (h : Fin 96 → Fin 128 → EReal) :
    (Finset.univ : Finset (Fin 96 × Fin 128)).fold max (Ideal.ofBits .f32 4286578688#32) (fun p => h p.1 p.2) = top h :=
  fold_top _ _ h (fun p _ => le_top h p.1 p.2) (by obtain ⟨p, hp⟩ := has_top h; exact ⟨p, Finset.mem_univ _, hp⟩)

/-- The blurred map's largest entry. -/
theorem v310_at (b : Fin 2) (k : Fin 133) :
    (res_main_v310 (F := Ideal) V0 : S2x133x1x1.Idx → EReal) (ix4 b k 0 0) = top (blur (hmap V0 b k)) := by
  pointwise [res_main_v310]
  refine (max4 (res_main_v306 (F := Ideal) V0) b k).trans (congrArg top ?_)
  funext y x
  exact v306_at V0 b k y x

/-- The row and column a flat place stands for. -/
def split (q : Fin 12288) : Fin 96 × Fin 128 := (⟨q.val / 128, by omega⟩, ⟨q.val % 128, by omega⟩)

theorem flat_split (q : Fin 12288) : flat (split q) = q.val := by
  show 128 * (q.val / 128) + q.val % 128 = q.val
  omega

theorem split_flat (p : Fin 96 × Fin 128) : split ⟨flat p, flat_lt p⟩ = p := by
  obtain ⟨y, x⟩ := p
  refine Prod.ext (Fin.ext ?_) (Fin.ext ?_)
  · show (128 * y.val + x.val) / 128 = y.val
    omega
  · show (128 * y.val + x.val) % 128 = x.val
    omega

/-- The flattened heatmap. -/
theorem v149_at (b : Fin 2) (k : Fin 133) (q : Fin 12288) :
    (res_main_v149 (F := Ideal) V0 : S2x133x12288.Idx → EReal) (ix3 b k q) = hmap V0 b k (split q).1 (split q).2 := by
  pointwise [res_main_v149]
  rfl

theorem max3 (b : Fin 2) (k : Fin 133) :
    (Finset.univ.filter fun i => reducesTo_S2x133x12288_S2x133_d2.drop i = ix2 b k).fold max (Ideal.ofBits .f32 4286578688#32)
        (res_main_v149 (F := Ideal) V0 : S2x133x12288.Idx → EReal)
      = top (hmap V0 b k) := by
  refine fold_top _ _ _ (fun i hi => ?_) ?_
  · obtain ⟨h0, h1⟩ := (drop3 i b k).1 (Finset.mem_filter.1 hi).2
    have e := eq_ix3 i
    rw [h0, h1] at e
    rw [e]
    exact le_of_eq_of_le (α := EReal) (v149_at V0 b k (i 2)) (le_top _ _ _)
  · obtain ⟨p, hp⟩ := has_top (hmap V0 b k)
    refine ⟨ix3 b k ⟨flat p, flat_lt p⟩, Finset.mem_filter.2 ⟨Finset.mem_univ _, (drop3 (ix3 b k ⟨flat p, flat_lt p⟩) b k).2 ⟨rfl, rfl⟩⟩, ?_⟩
    rw [v149_at, split_flat, hp]

/-- The word of each place: its own number where the map is largest, the map's size elsewhere. -/
theorem words (v : S2x133x12288.Idx → EReal) (b : Fin 2) (k : Fin 133) (q : Fin 12288)
    (w : S2x133.Idx → EReal) :
    select (cmpf (F := Ideal) (φ := .f32) .oeq v (broadcastInDim S2x133x12288 ![0, 1, 2] bcast_S2x133x1_S2x133x12288_0_1_2 (broadcastInDim S2x133x1 ![0, 1] bcast_S2x133_S2x133x1_0_1 w)))
        (iotaInDim S2x133x12288 32 2) (broadcastInDim S2x133x12288 ![] bcast_S_S2x133x12288 (id (constantI S_ 32 12288#32))) (ix3 b k q)
      = if v (ix3 b k q) = w (ix2 b k) then BitVec.ofNat 32 q.val else BitVec.ofNat 32 12288 := by
  pointwise []
  rfl

/-- The maximum of a flattened map, as a fold. -/
theorem reduce3 (v : S2x133x12288.Idx → EReal) (b : Fin 2) (k : Fin 133) :
    Host.reduce (FloatOps.maximumf (F := Ideal) (φ := .f32)) v (constant S_ .f32 0xFF800000#32) reducesTo_S2x133x12288_S2x133_d2 h_S_ (ix2 b k)
      = (Finset.univ.filter fun i => reducesTo_S2x133x12288_S2x133_d2.drop i = ix2 b k).fold max (Ideal.ofBits .f32 4286578688#32) v := by
  pointwise []

/-- The minimum of a flattened map of words, as a fold. -/
theorem reduceMin (v : S2x133x12288.Idx → BitVec 32) (b : Fin 2) (k : Fin 133) :
    Host.reduce IntOp.minsi v (constantI S_ 32 2147483647#32) reducesTo_S2x133x12288_S2x133_d2 h_S_ (ix2 b k)
      = (Finset.univ.filter fun i => reducesTo_S2x133x12288_S2x133_d2.drop i = ix2 b k).fold IntOp.minsi 2147483647#32 v :=
  Host.reduce_eq_fold IntOp.minsi v (constantI S_ 32 2147483647#32) reducesTo_S2x133x12288_S2x133_d2 h_S_ (ix2 b k)

/-- The place of the largest entry, counted along the rows. -/
theorem v156_at (b : Fin 2) (k : Fin 133) :
    (res_main_v156 (F := Ideal) V0 : S2x133.Idx → BitVec 32) (ix2 b k) = BitVec.ofNat 32 (flat (place (hmap V0 b k))) := by
  unfold res_main_v156
  refine (reduceMin _ b k).trans ?_
  refine fold_place _ (fun i => (res_main_v149 (F := Ideal) V0 : S2x133x12288.Idx → EReal) i) (fun i : S2x133x12288.Idx => split (i 2)) 12288 (by decide) (by decide)
    (hmap V0 b k) (fun i hi => ?_) (fun q => ?_) _ (fun i hi => ?_)
  · obtain ⟨h0, h1⟩ := (drop3 i b k).1 (Finset.mem_filter.1 hi).2
    have e := eq_ix3 i
    rw [h0, h1] at e
    rw [e]
    exact v149_at V0 b k (i 2)
  · refine ⟨ix3 b k ⟨flat q, flat_lt q⟩, Finset.mem_filter.2 ⟨Finset.mem_univ _, (drop3 (ix3 b k ⟨flat q, flat_lt q⟩) b k).2 ⟨rfl, rfl⟩⟩, split_flat q⟩
  · obtain ⟨h0, h1⟩ := (drop3 i b k).1 (Finset.mem_filter.1 hi).2
    have e := eq_ix3 i
    rw [h0, h1] at e
    rw [e]
    refine (words _ b k (i 2) _).trans ?_
    rw [(reduce3 _ b k).trans (max3 V0 b k)]
    rw [show flat (split ((ix3 b k (i 2) : S2x133x12288.Idx) 2)) = (i 2).val from flat_split (i 2)]

/-- The logarithm over any blurred maps, largest entries and heatmaps. -/
theorem log_at (B H : FVec Ideal S2x133x96x128 .f32) (M : FVec Ideal S2x133x1x1 .f32) (b : Fin 2) (k : Fin 133) (y : Fin 96) (x : Fin 128) :
    (Host.log (minimumf (broadcastInDim S2x133x96x128 ![] bcast_S_S2x133x96x128 (id (constant S_ .f32 0x42480000#32))) (maximumf (broadcastInDim S2x133x96x128 ![] bcast_S_S2x133x96x128 (id (constant S_ .f32 0x3A83126F#32))) (select (broadcastInDim S2x133x96x128 ![0, 1, 2, 3] bcast_S2x133x1x1_S2x133x96x128_0_1_2_3 (cmpf .ogt M (broadcastInDim S2x133x1x1 ![] bcast_S_S2x133x1x1 (constant S_ .f32 0x00000000#32)))) (mulf B (broadcastInDim S2x133x96x128 ![0, 1, 2, 3] bcast_S2x133x1x1_S2x133x96x128_0_1_2_3 (Host.divf (broadcastInDim S2x133x1x1 ![0, 1] bcast_S2x133_S2x133x1x1_0_1 (Host.reduce FloatOps.maximumf H (constant S_ .f32 0xFF800000#32) reducesTo_S2x133x96x128_S2x133_d2_3 h_S_)) (select (cmpf .ogt M (broadcastInDim S2x133x1x1 ![] bcast_S_S2x133x1x1 (constant S_ .f32 0x00000000#32))) M (broadcastInDim S2x133x1x1 ![] bcast_S_S2x133x1x1 (id (constant S_ .f32 0x3F800000#32))))))) B))) : FVec Ideal S2x133x96x128 .f32) (ix4 b k y x)
      = Ideal.log (min (Ideal.ofBits .f32 1112014848#32) (max (Ideal.ofBits .f32 981668463#32)
          (if 0 < M (ix4 b k 0 0) then B (ix4 b k y x) * Ideal.div (top fun y x => H (ix4 b k y x)) (if 0 < M (ix4 b k 0 0) then M (ix4 b k 0 0) else 1)
            else B (ix4 b k y x)))) := by
  pointwise []
  rw [maxPair fun y x => H (ix4 b k y x)]
  rw [show (id (constant (F := Ideal) S_ .f32 1065353216#32) ix0 : EReal) = 1 from by
    show Ideal.ofBits .f32 1065353216#32 = 1
    simp [Ideal.ofBits, Ideal.ieee]
    rw [← EReal.coe_mul, ← EReal.coe_one]
    norm_num]
  rfl

theorem v321_at (b : Fin 2) (k : Fin 133) (y : Fin 96) (x : Fin 128) :
    (res_main_v321 (F := Ideal) V0 : S2x133x96x128.Idx → EReal) (ix4 b k y x) = logmap (hmap V0 b k) y x := by
  unfold res_main_v321
  refine (log_at _ _ _ b k y x).trans ?_
  rw [v310_at, v306_at]
  rfl

theorem row_of : ∀ y : Fin 96, ∀ x : Fin 128, IntOp.divsi ArithUnit.host (BitVec.ofNat 32 (128 * y.val + x.val)) 128#32 = BitVec.ofNat 32 y.val := by
  decide +kernel
theorem col_of : ∀ y : Fin 96, ∀ x : Fin 128, IntOp.remsi ArithUnit.host (BitVec.ofNat 32 (128 * y.val + x.val)) 128#32 = BitVec.ofNat 32 x.val := by
  decide +kernel

theorem div_at (w : S2x133.Idx → BitVec 32) (b : Fin 2) (k : Fin 133) :
    Host.divsi w (broadcastInDim S2x133 ![] bcast_S_S2x133 (constantI S_ 32 128#32)) (ix2 b k) = IntOp.divsi ArithUnit.host (w (ix2 b k)) 128#32 := by
  pointwise []
theorem rem_at (w : S2x133.Idx → BitVec 32) (b : Fin 2) (k : Fin 133) :
    Host.remsi w (broadcastInDim S2x133 ![] bcast_S_S2x133 (constantI S_ 32 128#32)) (ix2 b k) = IntOp.remsi ArithUnit.host (w (ix2 b k)) 128#32 := by
  pointwise []

/-- Its row and its column. -/
theorem v161_at (b : Fin 2) (k : Fin 133) :
    (res_main_v161 (F := Ideal) V0 : S2x133.Idx → BitVec 32) (ix2 b k) = BitVec.ofNat 32 (place (hmap V0 b k)).1.val := by
  unfold res_main_v161
  refine (div_at _ b k).trans ?_
  rw [v156_at]
  exact row_of _ _
theorem v163_at (b : Fin 2) (k : Fin 133) :
    (res_main_v163 (F := Ideal) V0 : S2x133.Idx → BitVec 32) (ix2 b k) = BitVec.ofNat 32 (place (hmap V0 b k)).2.val := by
  unfold res_main_v163
  refine (rem_at _ b k).trans ?_
  rw [v156_at]
  exact col_of _ _

end Cert.ReferenceIdeal.Value

end

end
-- ==== Proof.Ref4.lean ====
/- The reference's keypoints and scores from the places and the neighbours. -/
module

public import proofs.«01_k».proof.Proof.Ref2
public import proofs.«01_k».proof.Proof.Gath

@[expose] public section

noncomputable section

namespace Cert.ReferenceIdeal.Value
open Idealize.ShloMosaic Idealize.ShloMosaic.TcCoe Idealize.ShloMosaic.Tactic Idealize.SL.Sem
open Cert.Spec Cert.ReferenceIdeal.Gen

set_option maxRecDepth 16384

variable (V0 : Valuation τ sig (Elt Ideal))

theorem sq_at (v : S2x133x1x1.Idx → EReal) (h) (b : Fin 2) (k : Fin 133) : shapeCast S2x133 v h (ix2 b k) = v (ix4 b k 0 0) := by pointwise []
theorem one_at (v : S2x133x3x3.Idx → EReal) (u w : ℕ) (h : S2x133x3x3.Slices ![0, 0, u, w] S2x133x1x1) (b k) (hu : u < 3) (hw : w < 3) :
    extractStridedSlice S2x133x1x1 ![0, 0, u, w] v h (ix4 b k 0 0) = v (ix4 b k ⟨u, hu⟩ ⟨w, hw⟩) := by pointwise []

/-- One entry of the window of map `(b, k)`. -/
def win (b : Fin 2) (k : Fin 133) (d e : Fin 3) : EReal := (res_main_v331 (F := Ideal) V0 : S2x133x3x3.Idx → EReal) (ix4 b k d e)

theorem entry_win (u w : ℕ) (h : S2x133x3x3.Slices ![0, 0, u, w] S2x133x1x1) (h') (b k) (hu : u < 3) (hw : w < 3) :
    shapeCast S2x133 (extractStridedSlice S2x133x1x1 ![0, 0, u, w] (res_main_v331 (F := Ideal) V0 : S2x133x3x3.Idx → EReal) h) h' (ix2 b k)
      = win V0 b k ⟨u, hu⟩ ⟨w, hw⟩ := (sq_at _ _ b k).trans (one_at _ u w _ b k hu hw)

theorem v333_at (b : Fin 2) (k : Fin 133) : (res_main_v333 (F := Ideal) V0 : S2x133.Idx → EReal) (ix2 b k) = win V0 b k 1 1 := by
  unfold res_main_v333; exact entry_win V0 1 1 _ _ b k (by decide) (by decide)
theorem v335_at (b : Fin 2) (k : Fin 133) : (res_main_v335 (F := Ideal) V0 : S2x133.Idx → EReal) (ix2 b k) = win V0 b k 1 2 := by
  unfold res_main_v335; exact entry_win V0 1 2 _ _ b k (by decide) (by decide)
theorem v337_at (b : Fin 2) (k : Fin 133) : (res_main_v337 (F := Ideal) V0 : S2x133.Idx → EReal) (ix2 b k) = win V0 b k 1 0 := by
  unfold res_main_v337; exact entry_win V0 1 0 _ _ b k (by decide) (by decide)
theorem v339_at (b : Fin 2) (k : Fin 133) : (res_main_v339 (F := Ideal) V0 : S2x133.Idx → EReal) (ix2 b k) = win V0 b k 2 1 := by
  unfold res_main_v339; exact entry_win V0 2 1 _ _ b k (by decide) (by decide)
theorem v341_at (b : Fin 2) (k : Fin 133) : (res_main_v341 (F := Ideal) V0 : S2x133.Idx → EReal) (ix2 b k) = win V0 b k 0 1 := by
  unfold res_main_v341; exact entry_win V0 0 1 _ _ b k (by decide) (by decide)

/-! The differences over any arrays. -/

theorem first_at (r l : S2x133.Idx → EReal) (b : Fin 2) (k : Fin 133) :
    mulf (F := Ideal) (φ := .f32) (broadcastInDim S2x133 ![] bcast_S_S2x133 (constant S_ .f32 0x3F000000#32)) (subf r l) (ix2 b k)
      = first (r (ix2 b k)) (l (ix2 b k)) := by
  pointwise []
  rfl
theorem second_at (i r l : S2x133.Idx → EReal) (b : Fin 2) (k : Fin 133) :
    addf (F := Ideal) (φ := .f32) (addf (subf r (mulf (broadcastInDim S2x133 ![] bcast_S_S2x133 (constant S_ .f32 0x40000000#32)) i)) l)
        (broadcastInDim S2x133 ![] bcast_S_S2x133 (constant S_ .f32 0x34000000#32)) (ix2 b k)
      = second (i (ix2 b k)) (r (ix2 b k)) (l (ix2 b k)) := by
  pointwise []
  rfl
theorem mixed_at (p r d i l u q : S2x133.Idx → EReal) (b : Fin 2) (k : Fin 133) :
    mulf (F := Ideal) (φ := .f32) (broadcastInDim S2x133 ![] bcast_S_S2x133 (constant S_ .f32 0x3F000000#32))
        (addf (subf (subf (addf (subf (subf p r) d) (mulf (broadcastInDim S2x133 ![] bcast_S_S2x133 (constant S_ .f32 0x40000000#32)) i)) l) u) q) (ix2 b k)
      = mixed (i (ix2 b k)) (r (ix2 b k)) (l (ix2 b k)) (d (ix2 b k)) (u (ix2 b k)) (p (ix2 b k)) (q (ix2 b k)) := by
  pointwise []
  rfl
theorem det_at (x y z : S2x133.Idx → EReal) (b : Fin 2) (k : Fin 133) :
    subf (F := Ideal) (φ := .f32) (mulf x y) (mulf z z) (ix2 b k)
      = x (ix2 b k) * y (ix2 b k) - z (ix2 b k) * z (ix2 b k) := by
  pointwise []

theorem first_eq {r l r' l' : EReal} (hr : r = r') (hl : l = l') : first r l = first r' l' := by rw [hr, hl]
theorem second_eq {i r l i' r' l' : EReal} (hi : i = i') (hr : r = r') (hl : l = l') : second i r l = second i' r' l' := by rw [hi, hr, hl]
theorem mixed_eq {i r l d u p q i' r' l' d' u' p' q' : EReal} (hi : i = i') (hr : r = r') (hl : l = l') (hd : d = d') (hu : u = u') (hp : p = p')
    (hq : q = q') : mixed i r l d u p q = mixed i' r' l' d' u' p' q' := by rw [hi, hr, hl, hd, hu, hp, hq]
theorem det_eq {a b c i r l d u p q : EReal} (ha : a = second i r l) (hb : b = second i d u) (hc : c = mixed i r l d u p q) :
    a * b - c * c = det i r l d u p q := by rw [ha, hb, hc]; rfl

theorem v348_at (b : Fin 2) (k : Fin 133) :
    (res_main_v348 (F := Ideal) V0 : S2x133.Idx → EReal) (ix2 b k) = first (win V0 b k 1 2) (win V0 b k 1 0) := by
  unfold res_main_v348
  exact (first_at _ _ b k).trans (first_eq (v335_at V0 b k) (v337_at V0 b k))
theorem v351_at (b : Fin 2) (k : Fin 133) :
    (res_main_v351 (F := Ideal) V0 : S2x133.Idx → EReal) (ix2 b k) = first (win V0 b k 2 1) (win V0 b k 0 1) := by
  unfold res_main_v351
  exact (first_at _ _ b k).trans (first_eq (v339_at V0 b k) (v341_at V0 b k))
theorem v371_at (b : Fin 2) (k : Fin 133) :
    (res_main_v371 (F := Ideal) V0 : S2x133.Idx → EReal) (ix2 b k) = second (win V0 b k 1 1) (win V0 b k 1 2) (win V0 b k 1 0) := by
  unfold res_main_v371
  exact (second_at _ _ _ b k).trans (second_eq (v333_at V0 b k) (v335_at V0 b k) (v337_at V0 b k))
theorem v373_at (b : Fin 2) (k : Fin 133) :
    (res_main_v373 (F := Ideal) V0 : S2x133.Idx → EReal) (ix2 b k) = second (win V0 b k 1 1) (win V0 b k 2 1) (win V0 b k 0 1) := by
  unfold res_main_v373
  exact (second_at _ _ _ b k).trans (second_eq (v333_at V0 b k) (v339_at V0 b k) (v341_at V0 b k))
theorem v369_at (b : Fin 2) (k : Fin 133) :
    (res_main_v369 (F := Ideal) V0 : S2x133.Idx → EReal) (ix2 b k)
      = mixed (win V0 b k 1 1) (win V0 b k 1 2) (win V0 b k 1 0) (win V0 b k 2 1) (win V0 b k 0 1) (win V0 b k 2 2) (win V0 b k 0 0) := by
  unfold res_main_v369
  exact (mixed_at _ _ _ _ _ _ _ b k).trans (mixed_eq (v333_at V0 b k) (v335_at V0 b k) (v337_at V0 b k) (v339_at V0 b k) (v341_at V0 b k)
    (entry_win V0 2 2 _ _ b k (by decide) (by decide)) (entry_win V0 0 0 _ _ b k (by decide) (by decide)))
theorem v376_at (b : Fin 2) (k : Fin 133) :
    (res_main_v376 (F := Ideal) V0 : S2x133.Idx → EReal) (ix2 b k)
      = det (win V0 b k 1 1) (win V0 b k 1 2) (win V0 b k 1 0) (win V0 b k 2 1) (win V0 b k 0 1) (win V0 b k 2 2) (win V0 b k 0 0) := by
  unfold res_main_v376
  exact (det_at _ _ _ b k).trans (det_eq (v371_at V0 b k) (v373_at V0 b k) (v369_at V0 b k))

end Cert.ReferenceIdeal.Value

end

end
-- ==== Proof.Ref5.lean ====
/- The window of logarithms around each largest entry, and the results read off it. -/
module

public import proofs.«01_k».proof.Proof.Ref3
public import proofs.«01_k».proof.Proof.Ref4

@[expose] public section

noncomputable section

namespace Cert.ReferenceIdeal.Value
open Idealize.ShloMosaic Idealize.ShloMosaic.TcCoe Idealize.ShloMosaic.Tactic Idealize.SL.Sem
open Cert.Spec Cert.ReferenceIdeal.Gen

set_option maxRecDepth 16384

variable (V0 : Valuation τ sig (Elt Ideal))

/-- Rows repeated at both edges. -/
theorem rows_pad (v : S2x133x96x128.Idx → EReal) (b : Fin 2) (k : Fin 133) (y : Fin 98) (x : Fin 128) :
    (concatenate S2x133x98x128 2 [⟨S2x133x1x128, ((extractStridedSlice S2x133x1x128 ![0, 0, 0, 0] v slices_S2x133x96x128_S2x133x1x128_0_0_0_0) : (⟨S2x133x1x128, .f32⟩ : BufTy).Contents (Elt Ideal))⟩, ⟨S2x133x96x128, (v : (⟨S2x133x96x128, .f32⟩ : BufTy).Contents (Elt Ideal))⟩, ⟨S2x133x1x128, ((extractStridedSlice S2x133x1x128 ![0, 0, 95, 0] v slices_S2x133x96x128_S2x133x1x128_0_0_95_0) : (⟨S2x133x1x128, .f32⟩ : BufTy).Contents (Elt Ideal))⟩] concatenates_S2x133x1x128_S2x133x96x128_S2x133x1x128_S2x133x98x128_d2 : (⟨S2x133x98x128, .f32⟩ : BufTy).Contents (Elt Ideal)) (ix4 b k y x) = v (ix4 b k ⟨min 95 (y.val - 1), by omega⟩ x) := by
  pointwise []
  have key : ∀ q q' : Fin 96, q = q' → v (ix4 b k q x) = v (ix4 b k q' x) := by rintro q _ rfl; rfl
  by_cases h1 : y.val < 1
  · rw [dif_pos h1]
    refine key _ _ (Fin.ext ?_)
    simp only
    omega
  · rw [dif_neg h1]
    by_cases h2 : y.val - 1 < 96
    · rw [dif_pos h2]
      refine key _ _ (Fin.ext ?_)
      simp only
      omega
    · rw [dif_neg h2]
      refine key _ _ (Fin.ext ?_)
      simp only
      omega

/-- Columns repeated at both edges. -/
theorem cols_pad (v : S2x133x98x128.Idx → EReal) (b : Fin 2) (k : Fin 133) (y : Fin 98) (x : Fin 130) :
    ((concatenate S2x133x98x130 3 [⟨S2x133x98x1, ((extractStridedSlice S2x133x98x1 ![0, 0, 0, 0] v slices_S2x133x98x128_S2x133x98x1_0_0_0_0) : (⟨S2x133x98x1, .f32⟩ : BufTy).Contents (Elt Ideal))⟩, ⟨S2x133x98x128, (v : (⟨S2x133x98x128, .f32⟩ : BufTy).Contents (Elt Ideal))⟩, ⟨S2x133x98x1, ((extractStridedSlice S2x133x98x1 ![0, 0, 0, 127] v slices_S2x133x98x128_S2x133x98x1_0_0_0_127) : (⟨S2x133x98x1, .f32⟩ : BufTy).Contents (Elt Ideal))⟩] concatenates_S2x133x98x1_S2x133x98x128_S2x133x98x1_S2x133x98x130_d3 : (⟨S2x133x98x130, .f32⟩ : BufTy).Contents (Elt Ideal))) (ix4 b k y x) = v (ix4 b k y ⟨min 127 (x.val - 1), by omega⟩) := by
  pointwise []
  have key : ∀ q q' : Fin 128, q = q' → v (ix4 b k y q) = v (ix4 b k y q') := by rintro q _ rfl; rfl
  by_cases h1 : x.val < 1
  · rw [dif_pos h1]
    refine key _ _ (Fin.ext ?_)
    simp only
    omega
  · rw [dif_neg h1]
    by_cases h2 : x.val - 1 < 128
    · rw [dif_pos h2]
      refine key _ _ (Fin.ext ?_)
      simp only
      omega
    · rw [dif_neg h2]
      refine key _ _ (Fin.ext ?_)
      simp only
      omega

/-- The two words a window begins at. -/
theorem starts_row (p q : S2x133.Idx → BitVec 32) (b : Fin 2) (k : Fin 133) :
    (concatenate S2x133x2 2 [⟨S2x133x1, (broadcastInDim S2x133x1 ![0, 1] bcast_S2x133_S2x133x1_0_1 p)⟩, ⟨S2x133x1, (broadcastInDim S2x133x1 ![0, 1] bcast_S2x133_S2x133x1_0_1 q)⟩] concatenates_S2x133x1_S2x133x1_S2x133x2_d2) (ix3 b k 0) = p (ix2 b k) := by
  pointwise []
theorem starts_col (p q : S2x133.Idx → BitVec 32) (b : Fin 2) (k : Fin 133) :
    (concatenate S2x133x2 2 [⟨S2x133x1, (broadcastInDim S2x133x1 ![0, 1] bcast_S2x133_S2x133x1_0_1 p)⟩, ⟨S2x133x1, (broadcastInDim S2x133x1 ![0, 1] bcast_S2x133_S2x133x1_0_1 q)⟩] concatenates_S2x133x1_S2x133x1_S2x133x2_d2) (ix3 b k 1) = q (ix2 b k) := by
  pointwise []

theorem v324_at (b : Fin 2) (k : Fin 133) (y : Fin 98) (x : Fin 128) :
    (res_main_v324 (F := Ideal) V0 : S2x133x98x128.Idx → EReal) (ix4 b k y x)
      = logmap (hmap V0 b k) ⟨min 95 (y.val - 1), by omega⟩ x := by
  unfold res_main_v324
  exact (rows_pad _ b k y x).trans (v321_at V0 b k _ x)

/-- The window holds the neighbours of the largest entry. -/
theorem win_at (b : Fin 2) (k : Fin 133) (d e : Fin 3) : win V0 b k d e = near (hmap V0 b k) d.val e.val := by
  have hy := (place (hmap V0 b k)).1.isLt
  have hx := (place (hmap V0 b k)).2.isLt
  unfold win res_main_v331
  refine (window_at _ _ b k d e).trans ((cols_pad _ b k _ _).trans ((v324_at V0 b k _ _).trans ?_))
  unfold near
  have E : ∀ y y' : Fin 96, ∀ x x' : Fin 128, y = y' → x = x' → logmap (hmap V0 b k) y x = logmap (hmap V0 b k) y' x' := by
    rintro y _ x _ rfl rfl; rfl
  refine E _ _ _ _ (Fin.ext ?_) (Fin.ext ?_)
  · show min 95 (min (BitVec.toInt _).toNat 95 + d.val - 1) = clip 95 _ _
    rw [starts_row, v161_at, toInt_small _ (by omega)]
    unfold clip
    rw [Int.toNat_natCast]; omega
  · show min 127 (min (BitVec.toInt _).toNat 127 + e.val - 1) = clip 127 _ _
    rw [starts_col, v163_at, toInt_small _ (by omega)]
    unfold clip
    rw [Int.toNat_natCast]; omega

end Cert.ReferenceIdeal.Value

end

end
-- ==== Proof.Ref6.lean ====
/- The reference's two results, entry by entry. -/
module

public import proofs.«01_k».proof.Proof.Ref5

@[expose] public section

noncomputable section

namespace Cert.ReferenceIdeal.Value
open Idealize.ShloMosaic Idealize.ShloMosaic.TcCoe Idealize.ShloMosaic.Tactic Idealize.SL.Sem
open Cert.Spec Cert.ReferenceIdeal.Gen

set_option maxRecDepth 16384

variable (V0 : Valuation τ sig (Elt Ideal))

/-- The entry picked by a word, from any flattened maps. -/
theorem pick_at (v : S2x133x12288.Idx → EReal) (w : S2x133.Idx → BitVec 32) (b : Fin 2) (k : Fin 133) :
    shapeCast S2x133 (Host.gather gather_S2x133x12288_S2x133x1_S2x133x1_2_n_01_01_2_2_111 v (broadcastInDim S2x133x1 ![0, 1] bcast_S2x133_S2x133x1_0_1 w)) shapeCasts_S2x133x1_S2x133 (ix2 b k)
      = v (ix3 b k ⟨min (w (ix2 b k)).toInt.toNat 12287, by omega⟩) := by
  have e1 : ∀ z : S2x133x1.Idx → EReal, shapeCast S2x133 z shapeCasts_S2x133x1_S2x133 (ix2 b k) = z (ix3 b k 0) := fun z => by pointwise []
  have e2 : broadcastInDim S2x133x1 ![0, 1] bcast_S2x133_S2x133x1_0_1 w (ix3 b k 0) = w (ix2 b k) := by pointwise []
  have key : ∀ q q' : Fin 12288, q = q' → v (ix3 b k q) = v (ix3 b k q') := by rintro q _ rfl; rfl
  exact (e1 _).trans ((entry_at v _ b k).trans (key _ _ (Fin.ext (by dsimp only; rw [e2]))))

/-- The scores: the largest entry of each heatmap. -/
def scores : S2x133.Idx → EReal := shapeCast S2x133 (Host.gather gather_S2x133x12288_S2x133x1_S2x133x1_2_n_01_01_2_2_111 (res_main_v149 V0) (broadcastInDim S2x133x1 ![0, 1] bcast_S2x133_S2x133x1_0_1 (res_main_v156 V0))) shapeCasts_S2x133x1_S2x133

theorem scores_at (b : Fin 2) (k : Fin 133) : scores V0 (ix2 b k) = top (hmap V0 b k) := by
  unfold scores
  refine (pick_at _ _ b k).trans ((v149_at V0 b k _).trans ?_)
  have hl := flat_lt (place (hmap V0 b k))
  have e : ∀ h, (⟨min ((res_main_v156 (F := Ideal) V0 : S2x133.Idx → BitVec 32) (ix2 b k)).toInt.toNat 12287, h⟩ : Fin 12288)
      = ⟨flat (place (hmap V0 b k)), hl⟩ := fun h => Fin.ext (by
    show min _ 12287 = flat (place (hmap V0 b k))
    rw [v156_at, toInt_small _ (by omega), Int.toNat_natCast]; omega)
  rw [e, split_flat]
  exact place_top _

/-- The keypoints from any scores, place words and differences. -/
def points (T d2 f1 mx f2 dt d1 : FVec Ideal S2x133 .f32) (wx wy : S2x133.Idx → BitVec 32) : FVec Ideal S2x133x2 .f32 :=
  select (broadcastInDim S2x133x2 ![0, 1, 2] bcast_S2x133x1_S2x133x2_0_1_2 (broadcastInDim S2x133x1 ![0, 1] bcast_S2x133_S2x133x1_0_1 (cmpf .ole T (broadcastInDim S2x133 ![] bcast_S_S2x133 (constant S_ .f32 0x00000000#32))))) (broadcastInDim S2x133x2 ![] bcast_S_S2x133x2 (constant S_ .f32 0xBF800000#32)) (concatenate S2x133x2 2 [⟨S2x133x1, (broadcastInDim S2x133x1 ![0, 1] bcast_S2x133_S2x133x1_0_1 (mulf (subf (sitofp .f32 wx) (Host.divf (subf (mulf d2 f1) (mulf mx f2)) dt)) (broadcastInDim S2x133 ![] bcast_S_S2x133 (constant S_ .f32 0x408102B2#32))))⟩, ⟨S2x133x1, (broadcastInDim S2x133x1 ![0, 1] bcast_S2x133_S2x133x1_0_1 (mulf (subf (sitofp .f32 wy) (Host.divf (addf (mulf (Host.negf mx) f1) (mulf d1 f2)) dt)) (broadcastInDim S2x133 ![] bcast_S_S2x133 (constant S_ .f32 0x4080C183#32))))⟩] concatenates_S2x133x1_S2x133x1_S2x133x2_d2)

theorem points_x (T d2 f1 mx f2 dt d1 : FVec Ideal S2x133 .f32) (wx wy : S2x133.Idx → BitVec 32) (b : Fin 2) (k : Fin 133) :
    (points T d2 f1 mx f2 dt d1 wx wy : S2x133x2.Idx → EReal) (ix3 b k 0)
      = if T (ix2 b k) ≤ 0 then Ideal.ofBits .f32 3212836864#32
        else (FloatOps.sitofp (F := Ideal) .f32 (wx (ix2 b k)) - Ideal.div (d2 (ix2 b k) * f1 (ix2 b k) - mx (ix2 b k) * f2 (ix2 b k)) (dt (ix2 b k)))
          * Ideal.ofBits .f32 1082196658#32 := by
  pointwise [points]
  try rfl
theorem points_y (T d2 f1 mx f2 dt d1 : FVec Ideal S2x133 .f32) (wx wy : S2x133.Idx → BitVec 32) (b : Fin 2) (k : Fin 133) :
    (points T d2 f1 mx f2 dt d1 wx wy : S2x133x2.Idx → EReal) (ix3 b k 1)
      = if T (ix2 b k) ≤ 0 then Ideal.ofBits .f32 3212836864#32
        else (FloatOps.sitofp (F := Ideal) .f32 (wy (ix2 b k)) - Ideal.div (-mx (ix2 b k) * f1 (ix2 b k) + d1 (ix2 b k) * f2 (ix2 b k)) (dt (ix2 b k)))
          * Ideal.ofBits .f32 1082179971#32 := by
  pointwise [points]
  try rfl

/-- The reference's keypoints. -/
def keypoints : FVec Ideal S2x133x2 .f32 :=
  points (scores V0) (res_main_v373 V0) (res_main_v348 V0) (res_main_v369 V0) (res_main_v351 V0) (res_main_v376 V0) (res_main_v371 V0)
    (res_main_v163 V0) (res_main_v161 V0)

theorem keypoints_x (b : Fin 2) (k : Fin 133) : (keypoints V0 : S2x133x2.Idx → EReal) (ix3 b k 0) = keypointX (hmap V0 b k) := by
  unfold keypoints
  refine (points_x _ _ _ _ _ _ _ _ _ b k).trans ?_
  rw [scores_at, v373_at, v348_at, v369_at, v351_at, v376_at, v163_at]
  simp only [win_at]
  rfl
theorem keypoints_y (b : Fin 2) (k : Fin 133) : (keypoints V0 : S2x133x2.Idx → EReal) (ix3 b k 1) = keypointY (hmap V0 b k) := by
  unfold keypoints
  refine (points_y _ _ _ _ _ _ _ _ _ b k).trans ?_
  rw [scores_at, v371_at, v348_at, v369_at, v351_at, v376_at, v161_at]
  simp only [win_at]
  rfl

end Cert.ReferenceIdeal.Value

end

end
-- ==== Proof.Equal.lean ====
/- The two programs end with equal results. -/
module

public import proofs.«01_k».proof.Defs
public import proofs.«01_k».proof.Proof.Frames
public import proofs.«01_k».proof.Proof.Pre
public import proofs.«01_k».proof.Proof.Kern3
public import proofs.«01_k».proof.Proof.Ref6

@[expose] public section

noncomputable section

namespace Cert.Proof
open Idealize.ShloMosaic Idealize.ShloMosaic.TcCoe Idealize.ShloMosaic.Tactic Idealize.SL.Sem
open StableHlo Cert.Spec

set_option maxRecDepth 16384

/-- A memory of the kernel, and one of the reference. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The two memories hold the same arguments on a device. -/
structure Same (m : KMem) (m' : RMem) (c : Dev Cert.KernelIdeal.nD) : Prop where
  g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable (m : KMem) (ρ : Dev Cert.KernelIdeal.nD → PrngReg) (m' : RMem) (c : Dev Cert.KernelIdeal.nD)

/-- The reference's heatmaps are the kernel's. -/
theorem heat_same (s : Same m m' c) (b : Fin 2) (k : Fin 133) :
    Cert.ReferenceIdeal.Value.hmap (launchContents m' c) b k = Cert.KernelIdeal.Gen.heat m c b k := by
  funext y x
  refine (Cert.ReferenceIdeal.Value.v148_at (launchContents m' c) b k y x).trans ?_
  have e0 : Cert.ReferenceIdeal.Value.a0 (launchContents m' c) = Cert.KernelIdeal.Gen.x0 m c := s.g0
  have e1 : Cert.ReferenceIdeal.Value.a1 (launchContents m' c) = Cert.KernelIdeal.Gen.x1 m c := s.g1
  have e2 : Cert.ReferenceIdeal.Value.w2 (launchContents m' c) = Cert.KernelIdeal.Gen.x2 m c := funext fun o => funext fun i => congrFun s.g2 (ix4 o i 0 0)
  have e3 : Cert.ReferenceIdeal.Value.b3 (launchContents m' c) = Cert.KernelIdeal.Gen.x3 m c := funext fun o => congrFun s.g3 (ix1 o)
  have e4 : Cert.ReferenceIdeal.Value.w4 (launchContents m' c) = Cert.KernelIdeal.Gen.x4 m c := funext fun o => funext fun i => congrFun s.g4 (ix4 o i 0 0)
  have e5 : Cert.ReferenceIdeal.Value.b5 (launchContents m' c) = Cert.KernelIdeal.Gen.x5 m c := funext fun o => congrFun s.g5 (ix1 o)
  rw [e0, e1, e2, e3, e4, e5]
  rfl

/-- The scores agree. -/
theorem scores_same (h : Cert.KernelIdeal.Gen.Finite m c) (s : Same m m' c) :
    Cert.ReferenceIdeal.Value.scores (launchContents m' c)
      = (Cert.KernelIdeal.Gen.W11 m ρ c (Proc.devRef .tc Cert.KernelIdeal.main_v58) : Cert.KernelIdeal.S2x133.Idx → EReal) := by
  funext i
  rw [eq_ix2 i]
  refine (Cert.ReferenceIdeal.Value.scores_at _ _ _).trans (Eq.trans ?_ (Cert.KernelIdeal.Gen.scores_at m ρ c h _ _).symm)
  exact congrArg top (heat_same m m' c s _ _)

/-- The keypoints agree. -/
theorem keypoints_same (h : Cert.KernelIdeal.Gen.Finite m c) (s : Same m m' c) :
    (Cert.ReferenceIdeal.Value.keypoints (launchContents m' c) : Cert.ReferenceIdeal.S2x133x2.Idx → EReal)
      = (Cert.KernelIdeal.Gen.W11 m ρ c (Proc.devRef .tc Cert.KernelIdeal.main_v57) : Cert.KernelIdeal.S2x133x2.Idx → EReal) := by
  have key : ∀ (b : Fin 2) (k : Fin 133) (t : Fin 2), (Cert.ReferenceIdeal.Value.keypoints (launchContents m' c) : Cert.ReferenceIdeal.S2x133x2.Idx → EReal) (ix3 b k t)
      = (Cert.KernelIdeal.Gen.W11 m ρ c (Proc.devRef .tc Cert.KernelIdeal.main_v57) : Cert.KernelIdeal.S2x133x2.Idx → EReal) (ix3 b k t) := by
    intro b k t
    refine Eq.trans ?_ (Cert.KernelIdeal.Gen.points_at m ρ c h b k t).symm
    match t with
    | 0 => exact (Cert.ReferenceIdeal.Value.keypoints_x _ b k).trans (congrArg keypointX (heat_same m m' c s b k))
    | 1 => exact (Cert.ReferenceIdeal.Value.keypoints_y _ b k).trans (congrArg keypointY (heat_same m m' c s b k))
  funext i
  rw [eq_ix3 i]
  exact key _ _ _

/-- Both programs run from memories agreeing on the arguments and end with equal results, the arguments kept. -/
theorem equal : Cert.algebraic_KernelIdeal_ReferenceIdeal_pre_finite := by
  intro m g m' g' hp hs
  have s : ∀ c, Same m m' c := fun c => ⟨(hs c).1, (hs c).2.1, (hs c).2.2.1, (hs c).2.2.2.1, (hs c).2.2.2.2.1, (hs c).2.2.2.2.2⟩
  refine ⟨fun c => Cert.KernelIdeal.Gen.W11 m g c (Proc.devRef .tc Cert.KernelIdeal.main_v57),
    fun c => Cert.KernelIdeal.Gen.W11 m g c (Proc.devRef .tc Cert.KernelIdeal.main_v58), ?_, ?_⟩
  · exact (θ_run Cert.KernelIdeal.defs _ _).mono (fun r h c =>
      ⟨h.1 c _ (Cert.KernelIdeal.Gen.mem_but Cert.KernelIdeal.main_v57 (by decide) (by decide)),
       h.1 c _ (Cert.KernelIdeal.Gen.mem_but Cert.KernelIdeal.main_v58 (by decide) (by decide)),
       (h.1 c _ (Cert.KernelIdeal.Gen.mem_but Cert.KernelIdeal.main_arg0 (by decide) (by decide))).trans (Cert.KernelIdeal.Gen.W11_main_arg0 m g c),
       (h.1 c _ (Cert.KernelIdeal.Gen.mem_but Cert.KernelIdeal.main_arg1 (by decide) (by decide))).trans (Cert.KernelIdeal.Gen.W11_main_arg1 m g c),
       (h.1 c _ (Cert.KernelIdeal.Gen.mem_but Cert.KernelIdeal.main_arg2 (by decide) (by decide))).trans (Cert.KernelIdeal.Gen.W11_main_arg2 m g c),
       (h.1 c _ (Cert.KernelIdeal.Gen.mem_but Cert.KernelIdeal.main_arg3 (by decide) (by decide))).trans (Cert.KernelIdeal.Gen.W11_main_arg3 m g c),
       (h.1 c _ (Cert.KernelIdeal.Gen.mem_but Cert.KernelIdeal.main_arg4 (by decide) (by decide))).trans (Cert.KernelIdeal.Gen.W11_main_arg4 m g c),
       (h.1 c _ (Cert.KernelIdeal.Gen.mem_but Cert.KernelIdeal.main_arg5 (by decide) (by decide))).trans (Cert.KernelIdeal.Gen.W11_main_arg5 m g c)⟩)
      (Cert.KernelIdeal.Gen.ends (F := Ideal) m g)
  · exact (θ_run Cert.ReferenceIdeal.defs _ _).mono (fun r h c =>
      ⟨(h c).1.trans (keypoints_same m g m' c (finite_of_pre m hp c) (s c)),
       (h c).2.1.trans (scores_same m g m' c (finite_of_pre m hp c) (s c)), (h c).2.2⟩)
      (Cert.ReferenceIdeal.Value.run (F := Ideal) m' g')

end Cert.Proof

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Gen.Kernel.Launch
public import proofs.«01_k».proof.Proof.Gen.Kernel.Skeleton
public import proofs.«01_k».proof.Proof.Gen.Kernel.Points
public import proofs.«01_k».proof.Proof.Gen.KernelIdeal.Launch
public import proofs.«01_k».proof.Proof.Gen.KernelIdeal.Skeleton
public import proofs.«01_k».proof.Proof.Gen.KernelIdeal.Points
public import proofs.«01_k».proof.Proof.Frames
public import proofs.«01_k».proof.Proof.Equal

@[expose] public section

namespace Cert.Proof

/-- The certificate. -/
theorem claim : Cert.Claim :=
  ⟨Cert.Kernel.Gen.facts, Cert.KernelIdeal.Gen.facts, Cert.ReferenceIdeal.Gen.facts, Cert.Pre_finite.Gen.facts,
    frame_p, frame_pi, fun m ρ _ => Cert.KernelIdeal.Gen.frame m ρ, frame_ri, fun m ρ _ => frame_r m ρ, preserves, equal⟩

end Cert.Proof

end
